-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S8x5120 : Shape := ⟨2, ![8, 5120]⟩
abbrev S4x5000 : Shape := ⟨2, ![4, 5000]⟩
abbrev S1 : Shape := ⟨1, ![1]⟩
abbrev S2 : Shape := ⟨1, ![2]⟩
abbrev S5120x8 : Shape := ⟨2, ![5120, 8]⟩
abbrev S1x5120 : Shape := ⟨2, ![1, 5120]⟩
abbrev S1x5000 : Shape := ⟨2, ![1, 5000]⟩
abbrev S100 : Shape := ⟨1, ![100]⟩
abbrev S100x1 : Shape := ⟨2, ![100, 1]⟩
abbrev S100x4 : Shape := ⟨2, ![100, 4]⟩
abbrev S100x5 : Shape := ⟨2, ![100, 5]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x512x1 : Shape := ⟨3, ![1, 512, 1]⟩
abbrev S1x1x1 : Shape := ⟨3, ![1, 1, 1]⟩
abbrev S8x512 : Shape := ⟨2, ![8, 512]⟩

abbrev nBuf : Space → Nat
  | .hbm => 74
  | .vmem => 4
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S5000x4, .f32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S5000, .f32⟩
  | .hbm, ⟨24, _⟩ => ⟨S_, .f32⟩
  | .hbm, ⟨25, _⟩ => ⟨S5000, .f32⟩
  | .hbm, ⟨26, _⟩ => ⟨S5000, .i1⟩
  | .hbm, ⟨27, _⟩ => ⟨S5000, .f32⟩
  | .hbm, ⟨28, _⟩ => ⟨S_, .f32⟩
  | .hbm, ⟨29, _⟩ => ⟨S8x5120, .f32⟩
  | .hbm, ⟨30, _⟩ => ⟨S4x5000, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x5120, .f32⟩
  | .hbm, ⟨37, _⟩ => ⟨S_, .f32⟩
  | .hbm, ⟨38, _⟩ => ⟨S5120x8, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S5120x8, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S5120x8, .f32⟩
  | .hbm, ⟨51, _⟩ => ⟨S1x5120, .f32⟩
  | .hbm, ⟨52, _⟩ => ⟨S1x5000, .f32⟩
  | .hbm, ⟨53, _⟩ => ⟨S5000, .f32⟩
  | .hbm, ⟨54, _⟩ => ⟨S_, .f32⟩
  | .hbm, ⟨55, _⟩ => ⟨S5000, .f32⟩
  | .hbm, ⟨56, _⟩ => ⟨S5000, .i1⟩
  | .hbm, ⟨57, _⟩ => ⟨S_, .f32⟩
  | .hbm, ⟨58, _⟩ => ⟨S_, .f32⟩
  | .hbm, ⟨59, _⟩ => ⟨S5000, .f32⟩
  | .hbm, ⟨60, _⟩ => ⟨S5000, .f32⟩
  | .hbm, ⟨61, _⟩ => ⟨S100, .f32⟩
  | .hbm, ⟨62, _⟩ => ⟨S100, .i32⟩
  | .hbm, ⟨63, _⟩ => ⟨S_, .i32⟩
  | .hbm, ⟨64, _⟩ => ⟨S100, .i32⟩
  | .hbm, ⟨65, _⟩ => ⟨S100, .i1⟩
  | .hbm, ⟨66, _⟩ => ⟨S_, .i32⟩
  | .hbm, ⟨67, _⟩ => ⟨S100, .i32⟩
  | .hbm, ⟨68, _⟩ => ⟨S100, .i32⟩
  | .hbm, ⟨69, _⟩ => ⟨S100, .i32⟩
  | .hbm, ⟨70, _⟩ => ⟨S100x1, .i32⟩
  | .hbm, ⟨71, _⟩ => ⟨S100x4, .f32⟩
  | .hbm, ⟨72, _⟩ => ⟨S100x1, .f32⟩
  | .hbm, ⟨73, _⟩ => ⟨S100x5, .f32⟩
  | .local _ .vmem, ⟨0, _⟩ => ⟨S8x5120, .f32⟩
  | .local _ .vmem, ⟨1, _⟩ => ⟨S5120x8, .f32⟩
  | .local _ .vmem, ⟨2, _⟩ => ⟨S1x5120, .f32⟩
  | .local _ .vmem, ⟨3, _⟩ => ⟨S8x5120, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_v0 : Ref sig .tc := ⟨.hbm, 3, rfl⟩
abbrev main_call0_call0_v1_0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_c_2 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_cst : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst_3 : Ref sig .tc := ⟨.hbm, 28, rfl⟩
abbrev main_call0_v19 : Ref sig .tc := ⟨.hbm, 29, rfl⟩
abbrev main_call0_v20 : Ref sig .tc := ⟨.hbm, 30, rfl⟩
abbrev main_call0_c_4 : Ref sig .tc := ⟨.hbm, 31, rfl⟩
abbrev main_call0_v21 : Ref sig .tc := ⟨.hbm, 32, rfl⟩
abbrev main_call0_c_5 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_cst_6 : Ref sig .tc := ⟨.hbm, 37, rfl⟩
abbrev main_call0_v25 : Ref sig .tc := ⟨.hbm, 38, rfl⟩
abbrev main_call0_c_7 : Ref sig .tc := ⟨.hbm, 39, rfl⟩
abbrev main_call0_v26 : Ref sig .tc := ⟨.hbm, 40, rfl⟩
abbrev main_call0_c_8 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_c_9 : Ref sig .tc := ⟨.hbm, 45, rfl⟩
abbrev main_call0_v30 : Ref sig .tc := ⟨.hbm, 46, rfl⟩
abbrev main_call0_c_10 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_cst_11 : Ref sig .tc := ⟨.hbm, 54, rfl⟩
abbrev main_call0_v37 : Ref sig .tc := ⟨.hbm, 55, rfl⟩
abbrev main_call0_v38 : Ref sig .tc := ⟨.hbm, 56, rfl⟩
abbrev main_call0_cst_12 : Ref sig .tc := ⟨.hbm, 57, rfl⟩
abbrev main_call0_call1_v0 : Ref sig .tc := ⟨.hbm, 58, rfl⟩
abbrev main_call0_call1_v1 : Ref sig .tc := ⟨.hbm, 59, rfl⟩
abbrev main_call0_v39 : Ref sig .tc := ⟨.hbm, 60, rfl⟩
abbrev main_call0_values : Ref sig .tc := ⟨.hbm, 61, rfl⟩
abbrev main_call0_indices : Ref sig .tc := ⟨.hbm, 62, rfl⟩
abbrev main_call0_c_13 : Ref sig .tc := ⟨.hbm, 63, rfl⟩
abbrev main_call0_v40 : Ref sig .tc := ⟨.hbm, 64, rfl⟩
abbrev main_call0_v41 : Ref sig .tc := ⟨.hbm, 65, rfl⟩
abbrev main_call0_c_14 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_v0 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v6 : BitVec 32 := Scalar.addi c0_i32 c10_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v8 : Index := Scalar.indexCast v7
  let c0 : Index := 0#32
  ![v8.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v11 : Index := Scalar.indexCast v7
  let c1 : Index := 1#32
  ![v11.toNat, 1]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v14 : Index := Scalar.indexCast v7
  let c2 : Index := 2#32
  ![v14.toNat, 2]
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v17 : Index := Scalar.indexCast v7
  let c3 : Index := 3#32
  ![v17.toNat, 3]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v20 : Index := Scalar.indexCast v7
  let c4 : Index := 4#32
  ![v20.toNat, 4]
@[reducible] def k0_t2_loop (k0_t1 : Fin k0_t1_loop.trips) : Scf.Loop 32 :=
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let c1_i32_3 : BitVec 32 := 1#32
  ⟨c0_i32_1, v31, c1_i32_3⟩
def k0_off6 (k0_t1 : Fin k0_t1_loop.trips) (k0_t2 : Fin (k0_t2_loop k0_t1).trips) : Fin 2 → Nat :=
  let c0_22 : Index := 0#32
  let c0_i32_1 : BitVec 32 := 0#32
  let c1_i32_3 : BitVec 32 := 1#32
  let arg5 : BitVec 32 := Scf.iv c0_i32_1 c1_i32_3 k0_t2
  let c512_i32_21 : BitVec 32 := 512#32
  let v102 : BitVec 32 := Scalar.muli arg5 c512_i32_21
  let v103 : Index := Scalar.indexCast v102
  ![0, v103.toNat]
def k0_off7 (k0_t1 : Fin k0_t1_loop.trips) (k0_t2 : Fin (k0_t2_loop k0_t1).trips) : Fin 2 → Nat :=
  let c1_23 : Index := 1#32
  let c0_i32_1 : BitVec 32 := 0#32
  let c1_i32_3 : BitVec 32 := 1#32
  let arg5 : BitVec 32 := Scf.iv c0_i32_1 c1_i32_3 k0_t2
  let c512_i32_21 : BitVec 32 := 512#32
  let v102 : BitVec 32 := Scalar.muli arg5 c512_i32_21
  let v105 : Index := Scalar.indexCast v102
  ![1, v105.toNat]
def k0_off8 (k0_t1 : Fin k0_t1_loop.trips) (k0_t2 : Fin (k0_t2_loop k0_t1).trips) : Fin 2 → Nat :=
  let c2_24 : Index := 2#32
  let c0_i32_1 : BitVec 32 := 0#32
  let c1_i32_3 : BitVec 32 := 1#32
  let arg5 : BitVec 32 := Scf.iv c0_i32_1 c1_i32_3 k0_t2
  let c512_i32_21 : BitVec 32 := 512#32
  let v102 : BitVec 32 := Scalar.muli arg5 c512_i32_21
  let v107 : Index := Scalar.indexCast v102
  ![2, v107.toNat]
def k0_off9 (k0_t1 : Fin k0_t1_loop.trips) (k0_t2 : Fin (k0_t2_loop k0_t1).trips) : Fin 2 → Nat :=
  let c3_25 : Index := 3#32
  let c0_i32_1 : BitVec 32 := 0#32
  let c1_i32_3 : BitVec 32 := 1#32
  let arg5 : BitVec 32 := Scf.iv c0_i32_1 c1_i32_3 k0_t2
  let c512_i32_21 : BitVec 32 := 512#32
  let v102 : BitVec 32 := Scalar.muli arg5 c512_i32_21
  let v109 : Index := Scalar.indexCast v102
  ![3, v109.toNat]
@[reducible] def k0_t3_loop (k0_t1 : Fin k0_t1_loop.trips) : Scf.Loop 32 :=
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let v28 : BitVec 32 := Scalar.addi c0_i32_1 v27
  let c1_i32_4 : BitVec 32 := 1#32
  ⟨v31, v28, c1_i32_4⟩
def k0_off10 (k0_t1 : Fin k0_t1_loop.trips) (k0_t3 : Fin (k0_t3_loop k0_t1).trips) : Fin 2 → Nat :=
  let c0_22 : Index := 0#32
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let c1_i32_4 : BitVec 32 := 1#32
  let arg5 : BitVec 32 := Scf.iv v31 c1_i32_4 k0_t3
  let c512_i32_21 : BitVec 32 := 512#32
  let v102 : BitVec 32 := Scalar.muli arg5 c512_i32_21
  let v103 : Index := Scalar.indexCast v102
  ![0, v103.toNat]
def k0_off11 (k0_t1 : Fin k0_t1_loop.trips) (k0_t3 : Fin (k0_t3_loop k0_t1).trips) : Fin 2 → Nat :=
  let c1_23 : Index := 1#32
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let c1_i32_4 : BitVec 32 := 1#32
  let arg5 : BitVec 32 := Scf.iv v31 c1_i32_4 k0_t3
  let c512_i32_21 : BitVec 32 := 512#32
  let v102 : BitVec 32 := Scalar.muli arg5 c512_i32_21
  let v105 : Index := Scalar.indexCast v102
  ![1, v105.toNat]
def k0_off12 (k0_t1 : Fin k0_t1_loop.trips) (k0_t3 : Fin (k0_t3_loop k0_t1).trips) : Fin 2 → Nat :=
  let c2_24 : Index := 2#32
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let c1_i32_4 : BitVec 32 := 1#32
  let arg5 : BitVec 32 := Scf.iv v31 c1_i32_4 k0_t3
  let c512_i32_21 : BitVec 32 := 512#32
  let v102 : BitVec 32 := Scalar.muli arg5 c512_i32_21
  let v107 : Index := Scalar.indexCast v102
  ![2, v107.toNat]
def k0_off13 (k0_t1 : Fin k0_t1_loop.trips) (k0_t3 : Fin (k0_t3_loop k0_t1).trips) : Fin 2 → Nat :=
  let c3_25 : Index := 3#32
  let c0_i32_1 : BitVec 32 := 0#32
  let c0_i32 : BitVec 32 := 0#32
  let c1_i32 : BitVec 32 := 1#32
  let arg4 : BitVec 32 := Scf.iv c0_i32 c1_i32 k0_t1
  let v27 : BitVec 32 := Scalar.subi arg4 c0_i32_1
  let c1_i32_2 : BitVec 32 := 1#32
  let v29 : BitVec 32 := Scalar.divsi v27 c1_i32_2
  let v30 : BitVec 32 := Scalar.muli v29 c1_i32_2
  let v31 : BitVec 32 := Scalar.addi c0_i32_1 v30
  let c1_i32_4 : BitVec 32 := 1#32
  let arg5 : BitVec 32 := Scf.iv v31 c1_i32_4 k0_t3
  let c512_i32_21 : BitVec 32 := 512#32
  let v102 : BitVec 32 := Scalar.muli arg5 c512_i32_21
  let v109 : Index := Scalar.indexCast v102
  ![3, v109.toNat]
def k0_off14 (k0_t1 : Fin k0_t1_loop.trips) : Fin 2 → Nat :=
  let c0_6 : Index := 0#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v37 : Index := Scalar.indexCast v7
  ![0, v37.toNat]
def k0_off15 (k0_t1 : Fin k0_t1_loop.trips) : Fin 2 → Nat :=
  let c1_7 : Index := 1#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v40 : Index := Scalar.indexCast v7
  ![1, v40.toNat]
def k0_off16 (k0_t1 : Fin k0_t1_loop.trips) : Fin 2 → Nat :=
  let c2_8 : Index := 2#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v43 : Index := Scalar.indexCast v7
  ![2, v43.toNat]
def k0_off17 (k0_t1 : Fin k0_t1_loop.trips) : Fin 2 → Nat :=
  let c3_9 : Index := 3#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v46 : Index := Scalar.indexCast v7
  ![3, v46.toNat]
def k0_off18 (k0_t1 : Fin k0_t1_loop.trips) : Fin 2 → Nat :=
  let c0_18 : Index := 0#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v91 : Index := Scalar.indexCast v7
  ![0, v91.toNat]
def k0_off19 (k0_t1 : Fin k0_t1_loop.trips) : Fin 2 → Nat :=
  let c0_19 : Index := 0#32
  let c0_i32 : BitVec 32 := 0#32
  let c1_i32 : BitVec 32 := 1#32
  let arg4 : BitVec 32 := Scf.iv c0_i32 c1_i32 k0_t1
  let c512_i32 : BitVec 32 := 512#32
  let v7 : BitVec 32 := Scalar.muli arg4 c512_i32
  let v93 : Index := Scalar.indexCast v7
  ![0, v93.toNat]
abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 149
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S_, .i32⟩
  | 16 => ⟨S5000, .i32⟩
  | 17 => ⟨S5000, .i1⟩
  | 18 => ⟨S_, .i32⟩
  | 19 => ⟨S5000, .i32⟩
  | 20 => ⟨S5000, .i32⟩
  | 21 => ⟨S5000, .i32⟩
  | 22 => ⟨S5000x1, .i32⟩
  | 23 => ⟨S5000, .f32⟩
  | 24 => ⟨S_, .f32⟩
  | 25 => ⟨S5000, .f32⟩
  | 26 => ⟨S5000, .i1⟩
  | 27 => ⟨S5000x1, .f32⟩
  | 28 => ⟨S5000, .f32⟩
  | 29 => ⟨S5000x1, .f32⟩
  | 30 => ⟨S5000, .f32⟩
  | 31 => ⟨S5000, .f32⟩
  | 32 => ⟨S5000x1, .f32⟩
  | 33 => ⟨S5000, .f32⟩
  | 34 => ⟨S5000x1, .f32⟩
  | 35 => ⟨S5000, .f32⟩
  | 36 => ⟨S5000, .f32⟩
  | 37 => ⟨S5000, .f32⟩
  | 38 => ⟨S5000x1, .f32⟩
  | 39 => ⟨S5000, .f32⟩
  | 40 => ⟨S5000x1, .f32⟩
  | 41 => ⟨S5000, .f32⟩
  | 42 => ⟨S5000, .f32⟩
  | 43 => ⟨S5000x1, .f32⟩
  | 44 => ⟨S5000, .f32⟩
  | 45 => ⟨S5000x1, .f32⟩
  | 46 => ⟨S5000, .f32⟩
  | 47 => ⟨S5000, .f32⟩
  | 48 => ⟨S5000, .f32⟩
  | 49 => ⟨S5000x2, .f32⟩
  | 50 => ⟨S5000x1x2, .f32⟩
  | 51 => ⟨S5000x2, .f32⟩
  | 52 => ⟨S1x5000x2, .f32⟩
  | 53 => ⟨S5000x5000x2, .f32⟩
  | 54 => ⟨S5000x5000x2, .f32⟩
  | 55 => ⟨S5000x5000x2, .f32⟩
  | 56 => ⟨S5000x2, .f32⟩
  | 57 => ⟨S5000x1x2, .f32⟩
  | 58 => ⟨S5000x2, .f32⟩
  | 59 => ⟨S1x5000x2, .f32⟩
  | 60 => ⟨S5000x5000x2, .f32⟩
  | 61 => ⟨S5000x5000x2, .f32⟩
  | 62 => ⟨S5000x5000x2, .f32⟩
  | 63 => ⟨S5000x5000x2, .f32⟩
  | 64 => ⟨S_, .f32⟩
  | 65 => ⟨S_, .f32⟩
  | 66 => ⟨S5000x5000x2, .f32⟩
  | 67 => ⟨S5000x5000x2, .f32⟩
  | 68 => ⟨S5000x5000x1, .f32⟩
  | 69 => ⟨S5000x5000, .f32⟩
  | 70 => ⟨S5000x5000x1, .f32⟩
  | 71 => ⟨S5000x5000, .f32⟩
  | 72 => ⟨S5000x5000, .f32⟩
  | 73 => ⟨S5000x1, .f32⟩
  | 74 => ⟨S1x5000, .f32⟩
  | 75 => ⟨S5000x5000, .f32⟩
  | 76 => ⟨S5000x5000, .f32⟩
  | 77 => ⟨S5000x5000, .f32⟩
  | 78 => ⟨S5000x5000, .f32⟩
  | 79 => ⟨S_, .f32⟩
  | 80 => ⟨S5000x5000, .f32⟩
  | 81 => ⟨S5000x5000, .f32⟩
  | 82 => ⟨S5000x5000, .f32⟩
  | 83 => ⟨S5000, .i32⟩
  | 84 => ⟨S_, .i32⟩
  | 85 => ⟨S_, .i32⟩
  | 86 => ⟨S5000x5000, .f32⟩
  | 87 => ⟨S5000, .i32⟩
  | 88 => ⟨S_, .i32⟩
  | 89 => ⟨S_, .i32⟩
  | 90 => ⟨S5000, .i1⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x5000, .f32⟩
  | 110 => ⟨S5000, .f32⟩
  | 111 => ⟨S_, .f32⟩
  | 112 => ⟨S5000, .f32⟩
  | 113 => ⟨S5000, .i1⟩
  | 114 => ⟨S_, .i32⟩
  | 115 => ⟨S5000, .i32⟩
  | 116 => ⟨S5000, .i1⟩
  | 117 => ⟨S5000, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1, .i1⟩
  | 125 => ⟨S_, .i1⟩
  | 126 => ⟨S5000, .i1⟩
  | 127 => ⟨S5000, .i1⟩
  | _ => ⟨S5000x4, .f32⟩

abbrev hbmTy0_1 (i : Nat) : BufTy := match i % 128 with
  | 0 => ⟨S5000, .i1⟩
  | 1 => ⟨S5000, .i1⟩
  | 2 => ⟨S_, .i32⟩
  | 3 => ⟨S_, .i32⟩
  | 4 => ⟨S_, .f32⟩
  | 5 => ⟨S_, .f32⟩
  | 6 => ⟨S5000, .f32⟩
  | 7 => ⟨S5000, .f32⟩
  | 8 => ⟨S100, .f32⟩
  | 9 => ⟨S100, .i32⟩
  | 10 => ⟨S_, .i32⟩
  | 11 => ⟨S100, .i32⟩
  | 12 => ⟨S100, .i1⟩
  | 13 => ⟨S_, .i32⟩
  | 14 => ⟨S100, .i32⟩
  | 15 => ⟨S100, .i32⟩
  | 16 => ⟨S100, .i32⟩
  | 17 => ⟨S100x1, .i32⟩
  | 18 => ⟨S100x4, .f32⟩
  | 19 => ⟨S100x1, .f32⟩
  | 20 => ⟨S100x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_call1_v0 : Ref sig .tc := ⟨.hbm, 65, rfl⟩
abbrev main_call1_v1 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_4 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_5 : Ref sig .tc := ⟨.hbm, 84, rfl⟩
abbrev main_c_6 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev main_v71_4 : Ref sig .tc := ⟨.hbm, 90, rfl⟩
abbrev main_while0c_c_14 : Ref sig .tc := ⟨.hbm, 91, rfl⟩
abbrev main_while0c_v82 : Ref sig .tc := ⟨.hbm, 92, rfl⟩
abbrev main_while0b_c_14 : Ref sig .tc := ⟨.hbm, 93, rfl⟩
abbrev main_while0b_v82 : Ref sig .tc := ⟨.hbm, 94, rfl⟩
abbrev main_while0b_v83 : Ref sig .tc := ⟨.hbm, 95, rfl⟩
abbrev main_while0b_c_15 : Ref sig .tc := ⟨.hbm, 96, rfl⟩
abbrev main_while0b_v84 : Ref sig .tc := ⟨.hbm, 97, rfl⟩
abbrev main_while0b_c_16 : Ref sig .tc := ⟨.hbm, 98, rfl⟩
abbrev main_while0b_v85 : Ref sig .tc := ⟨.hbm, 99, rfl⟩
abbrev main_while0b_v86 : Ref sig .tc := ⟨.hbm, 100, rfl⟩
abbrev main_while0b_c_17 : Ref sig .tc := ⟨.hbm, 101, rfl⟩
abbrev main_while0b_c_18 : Ref sig .tc := ⟨.hbm, 102, rfl⟩
abbrev main_while0b_v87 : Ref sig .tc := ⟨.hbm, 103, rfl⟩
abbrev main_while0b_c_19 : Ref sig .tc := ⟨.hbm, 104, rfl⟩
abbrev main_while0b_c_20 : Ref sig .tc := ⟨.hbm, 105, rfl⟩
abbrev main_while0b_v88 : Ref sig .tc := ⟨.hbm, 106, rfl⟩
abbrev main_while0b_c_21 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_cst_22 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_c_23 : Ref sig .tc := ⟨.hbm, 118, rfl⟩
abbrev main_while0b_v98 : Ref sig .tc := ⟨.hbm, 119, rfl⟩
abbrev main_while0b_v99 : Ref sig .tc := ⟨.hbm, 120, rfl⟩
abbrev main_while0b_c_24 : Ref sig .tc := ⟨.hbm, 121, rfl⟩
abbrev main_while0b_v100 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_v107 : Ref sig .tc := ⟨.hbm, 129, rfl⟩
abbrev main_while0b_c_25 : Ref sig .tc := ⟨.hbm, 130, rfl⟩
abbrev main_while0b_v108 : Ref sig .tc := ⟨.hbm, 131, rfl⟩
abbrev main_cst_7 : Ref sig .tc := ⟨.hbm, 132, rfl⟩
abbrev main_call2_v0 : Ref sig .tc := ⟨.hbm, 133, rfl⟩
abbrev main_call2_v1 : Ref sig .tc := ⟨.hbm, 134, rfl⟩
abbrev main_v72 : Ref sig .tc := ⟨.hbm, 135, rfl⟩
abbrev main_values : Ref sig .tc := ⟨.hbm, 136, rfl⟩
abbrev main_indices : Ref sig .tc := ⟨.hbm, 137, rfl⟩
abbrev main_c_8 : Ref sig .tc := ⟨.hbm, 138, rfl⟩
abbrev main_v73 : Ref sig .tc := ⟨.hbm, 139, rfl⟩
abbrev main_v74 : Ref sig .tc := ⟨.hbm, 140, rfl⟩
abbrev main_c_9 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩

abbrev nD : Nat := 1
abbrev τ : Topo := Topo.v7x

variable {F : FTy → Type} [FloatOps F]

abbrev main_while0_count : Scf.Loop 32 := ⟨0#32, 5000#32, 1#32⟩
-- ==== Proof.Greedy.lean ====
/-
  Greedy suppression over an ordered list of boxes, as plain mathematics: which boxes are kept (`kept`), how the boxes
  kept inside a block follow from the boxes kept before the block (`kept_block`), and why repeating the one-round rule
  (`nextq`) inside a block settles one more row per round (`nextq_prefix`) and can only stop at the greedy answer
  (`nextq_fix`). The 0/1 indicator of a proposition as an extended real (`ind`) closes the file.
-/
module

public import Mathlib.Data.EReal.Basic
public import Mathlib.Data.EReal.Operations
public import Mathlib.Algebra.BigOperators.Fin
public import Mathlib.Algebra.Order.BigOperators.Group.Finset

@[expose] public section

noncomputable section

namespace Cert.Proof

open scoped BigOperators

/-! ### The greedy rule -/

/-- Box `r` is kept when it is valid and no box kept before it overlaps it. -/
def kept (valid : ℕ → Prop) (ov : ℕ → ℕ → Prop) (r : ℕ) : Prop :=
  valid r ∧ ∀ c, (h : c < r) → kept valid ov c → ¬ ov r c
termination_by r

/-- The rule, read as an equation. -/
theorem kept_iff (valid : ℕ → Prop) (ov : ℕ → ℕ → Prop) (r : ℕ) :
    kept valid ov r ↔ valid r ∧ ∀ c < r, kept valid ov c → ¬ ov r c := by
  rw [kept]

/-- Only the validity of the boxes up to `r` and their mutual overlaps matter for whether `r` is kept. -/
theorem kept_congr {valid valid' : ℕ → Prop} {ov ov' : ℕ → ℕ → Prop} (n : ℕ)
    (hv : ∀ r < n, (valid r ↔ valid' r)) (ho : ∀ r < n, ∀ c < r, (ov r c ↔ ov' r c)) :
    ∀ r < n, (kept valid ov r ↔ kept valid' ov' r) := by
  intro r
  induction r using Nat.strong_induction_on with
  | _ r ih =>
    intro hr
    rw [kept_iff, kept_iff valid', hv r hr]
    refine and_congr_right fun _ => ?_
    constructor
    · intro h c hc hk
      rw [← ho r hr c hc]; exact h c hc ((ih c hc (hc.trans hr)).mpr hk)
    · intro h c hc hk
      rw [ho r hr c hc]; exact h c hc ((ih c hc (hc.trans hr)).mp hk)

/-- Inside the block of rows from `B` on, the kept rows follow the greedy rule among themselves, started from the rows
    that are valid and that no box kept before the block overlaps. -/
theorem kept_block (valid : ℕ → Prop) (ov : ℕ → ℕ → Prop) (B r : ℕ) :
    kept valid ov (B + r) ↔
      (valid (B + r) ∧ ∀ c < B, kept valid ov c → ¬ ov (B + r) c)
        ∧ ∀ c < r, kept valid ov (B + c) → ¬ ov (B + r) (B + c) := by
  rw [kept_iff]
  constructor
  · rintro ⟨hv, h⟩
    exact ⟨⟨hv, fun c hc => h c (by omega)⟩, fun c hc => h (B + c) (by omega)⟩
  · rintro ⟨⟨hv, h1⟩, h2⟩
    refine ⟨hv, fun c hc hk => ?_⟩
    by_cases hB : c < B
    · exact h1 c hB hk
    · obtain ⟨d, rfl⟩ := Nat.exists_eq_add_of_le (Nat.le_of_not_lt hB)
      exact h2 d (by omega) hk

/-! ### One round of the rule inside a block of `n` rows -/

section Round

variable {n : ℕ} (V : Fin n → Prop) (O : Fin n → Fin n → Prop)

/-- One round: a row stays when it may start and no earlier row of the current guess `q` overlaps it. -/
def nextq (q : Fin n → Prop) (r : Fin n) : Prop := V r ∧ ∀ c < r, q c → ¬ O r c

variable {V O}

/-- A guess right on the first `t` rows is, after one round, right on the first `t + 1`. -/
theorem nextq_prefix {K q : Fin n → Prop} (hK : ∀ r, K r ↔ nextq V O K r) (t : ℕ)
    (hq : ∀ r : Fin n, r.val < t → (q r ↔ K r)) :
    ∀ r : Fin n, r.val < t + 1 → (nextq V O q r ↔ K r) := by
  intro r hr
  rw [hK r]
  refine and_congr_right fun _ => ?_
  constructor
  · intro h c hc hk
    exact h c hc ((hq c (by have : c.val < r.val := hc; omega)).mpr hk)
  · intro h c hc hk
    exact h c hc ((hq c (by have : c.val < r.val := hc; omega)).mp hk)

/-- A guess that one round leaves as it is is the greedy answer. -/
theorem nextq_fix {K q : Fin n → Prop} (hK : ∀ r, K r ↔ nextq V O K r) (hq : ∀ r, nextq V O q r ↔ q r) :
    ∀ r, q r ↔ K r := by
  have h : ∀ t (r : Fin n), r.val < t → (q r ↔ K r) := by
    intro t
    induction t with
    | zero => intro r hr; omega
    | succ t ih => intro r hr; rw [← hq r]; exact nextq_prefix hK t ih r hr
  exact fun r => h n r r.isLt

end Round

/-! ### Indicators -/

open Classical in
/-- 1 when the proposition holds, else 0. -/
def ind (p : Prop) : EReal := if p then 1 else 0

theorem ind_true {p : Prop} (h : p) : ind p = 1 := by rw [ind, if_pos h]
theorem ind_false {p : Prop} (h : ¬ p) : ind p = 0 := by rw [ind, if_neg h]

/-- A choice between 1 and 0 is an indicator, whichever way the choice is decided. -/
theorem ite_eq_ind (p : Prop) [Decidable p] : (if p then (1 : EReal) else 0) = ind p := by
  by_cases h : p
  · rw [if_pos h, ind_true h]
  · rw [if_neg h, ind_false h]

theorem ind_congr {p q : Prop} (h : p ↔ q) : ind p = ind q := by rw [propext h]

/-- Two indicators are the same number only when the propositions agree. -/
theorem ind_inj {p q : Prop} : ind p = ind q ↔ (p ↔ q) := by
  by_cases hp : p <;> by_cases hq : q <;> simp [ind, hp, hq]

theorem ind_mul (p q : Prop) : ind p * ind q = ind (p ∧ q) := by
  by_cases hp : p <;> by_cases hq : q <;> simp [ind, hp, hq]

theorem ind_one_sub (p : Prop) : 1 - ind p = ind (¬ p) := by
  by_cases hp : p
  · rw [ind_true hp, ind_false (by simpa using hp)]
    exact EReal.sub_self (by decide) (by decide)
  · rw [ind_false hp, ind_true hp, sub_zero]

theorem ind_max (p q : Prop) : max (ind p) (ind q) = ind (p ∨ q) := by
  by_cases hp : p <;> by_cases hq : q <;> simp [ind, hp, hq]

theorem ind_nonneg (p : Prop) : 0 ≤ ind p := by
  by_cases hp : p
  · rw [ind_true hp]; exact zero_le_one
  · rw [ind_false hp]

/-- The maximum of indicators, from the least element on: the indicator of "some". -/
theorem fold_max_ind {ι : Type} [Fintype ι] [Nonempty ι] (p : ι → Prop) :
    Finset.univ.fold max (⊥ : EReal) (fun x => ind (p x)) = ind (∃ x, p x) := by
  classical
  apply le_antisymm
  · rw [Finset.fold_max_le]
    refine ⟨bot_le, fun x _ => ?_⟩
    by_cases h : p x
    · rw [ind_true h, ind_true ⟨x, h⟩]
    · rw [ind_false h]; exact ind_nonneg _
  · rw [Finset.le_fold_max]
    right
    by_cases h : ∃ x, p x
    · obtain ⟨x, hx⟩ := h
      exact ⟨x, Finset.mem_univ _, by rw [ind_true ⟨x, hx⟩, ind_true hx]⟩
    · exact ⟨Classical.arbitrary ι, Finset.mem_univ _, by rw [ind_false h]; exact ind_nonneg _⟩

/-- A sum of indicators exceeds a bound between 0 and 1 exactly when one of the propositions holds. -/
theorem lt_sum_ind {ι : Type} [Fintype ι] (h : EReal) (h0 : 0 ≤ h) (h1 : h < 1) (p : ι → Prop) :
    h < ∑ x, ind (p x) ↔ ∃ x, p x := by
  classical
  constructor
  · intro hl
    by_contra hn
    rw [Finset.sum_eq_zero (fun x _ => ind_false fun hx => hn ⟨x, hx⟩)] at hl
    exact absurd hl (not_lt.mpr h0)
  · rintro ⟨x, hx⟩
    refine lt_of_lt_of_le h1 ?_
    rw [← ind_true hx]
    exact Finset.single_le_sum (f := fun x => ind (p x)) (fun y _ => ind_nonneg _) (Finset.mem_univ x)

/-- A sum along a diagonal keeps the one entry on it. -/
theorem sum_diag {n : ℕ} (r : Fin n) (a : Fin n → EReal) : (∑ x, if x = r then a x else 0) = a r := by
  simp

end Cert.Proof

end
-- ==== Proof.Overlap.lean ====
/-
  The overlap measure of two boxes over the extended reals (`iou`: intersection over union with a small constant in the
  denominator), the test "overlap above one half" (`over`), its symmetry, and what a box whose four coordinates are zero
  does under it: nothing (`not_over_zero`).
-/
module

public import proofs.«01_k».proof.Proof.Greedy
public import Idealize.ShloMosaic.PureOps.Ideal

@[expose] public section

noncomputable section

namespace Cert.Proof

open Idealize.ShloMosaic

/-- The test's threshold, one half. -/
def half : EReal := Ideal.ofBits .f32 0x3F000000#32

/-- The small constant of the denominator. -/
def eps : EReal := Ideal.ofBits .f32 0x3089705F#32

theorem half_eq : half = ((1 / 2 : ℝ) : EReal) := by
  simp [half, Ideal.ofBits, Ideal.ieee, -EReal.coe_mul]; norm_num

/-- The pattern a maximum starts from is the least extended real. -/
theorem ofBits_neg_inf : Ideal.ofBits .f32 0xFF800000#32 = ⊥ := by
  simp [Ideal.ofBits, Ideal.ieee]

theorem half_nonneg : 0 ≤ half := by
  rw [half_eq]; exact_mod_cast (by norm_num : (0 : ℝ) ≤ 1 / 2)

theorem half_lt_one : half < 1 := by
  rw [half_eq]; exact_mod_cast (by norm_num : (1 / 2 : ℝ) < 1)

/-- A box's area, from its corners `(x1, y1, x2, y2)`. -/
def area (p : Fin 4 → EReal) : EReal := (p 2 - p 0) * (p 3 - p 1)

/-- The area two boxes share. -/
def inter (p q : Fin 4 → EReal) : EReal :=
  max (min (p 2) (q 2) - max (p 0) (q 0)) 0 * max (min (p 3) (q 3) - max (p 1) (q 1)) 0

/-- Intersection over union. -/
def iou (p q : Fin 4 → EReal) : EReal := Ideal.div (inter p q) (area p + area q - inter p q + eps)

/-- The boxes overlap by more than one half. -/
def over (p q : Fin 4 → EReal) : Prop := half < iou p q

/-- Box `r` overlaps box `c` by more than a half. -/
abbrev ovl (box : ℕ → Fin 4 → EReal) (r c : ℕ) : Prop := over (box r) (box c)

theorem inter_comm (p q : Fin 4 → EReal) : inter p q = inter q p := by
  simp only [inter, min_comm, max_comm]

theorem iou_comm (p q : Fin 4 → EReal) : iou p q = iou q p := by
  rw [iou, iou, inter_comm p q, add_comm (area p)]

theorem over_comm (p q : Fin 4 → EReal) : over p q ↔ over q p := by rw [over, over, iou_comm]

/-- A box with all coordinates zero shares no area with any box. -/
theorem inter_zero (p q : Fin 4 → EReal) (h0 : q 0 = 0) (h2 : q 2 = 0) : inter p q = 0 := by
  have h : max (min (p 2) (q 2) - max (p 0) (q 0)) 0 = 0 := by
    apply max_eq_right
    rw [h0, h2]
    calc min (p 2) 0 - max (p 0) 0 ≤ 0 - 0 := EReal.sub_le_sub (min_le_right _ _) (le_max_right _ _)
      _ = 0 := sub_zero 0
  rw [inter, h, zero_mul]

/-- So it overlaps none by more than one half. -/
theorem not_over_zero (p q : Fin 4 → EReal) (h0 : q 0 = 0) (h2 : q 2 = 0) : ¬ over p q := by
  rw [over, iou, inter_zero p q h0 h2, not_lt, Ideal.div]
  split
  · rw [if_neg (lt_irrefl _)]; exact bot_le
  · rw [zero_mul]; exact half_nonneg

end Cert.Proof

end
-- ==== Proof.BlockMath.lean ====
/-
  What the values the kernel computes for one block of 512 boxes are, entry by entry over the extended reals: the mask
  "which earlier box of the block overlaps this one" (`mask_apply`), the largest overlap flag against a block of kept
  boxes (`cross_apply`), the start vector (`start_apply`), one round of the settling loop (`round_apply`) and its test for
  a change (`changed_apply`), and the settled vector laid out as a row (`row_apply`) and multiplied into the block's
  coordinates (`masked_apply`).
-/
module

public import proofs.«01_k».proof.Proof.Overlap
public import proofs.«01_k».proof.Proof.Gen.KernelIdeal
public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Proof

open Cert.KernelIdeal Cert.KernelIdeal.Gen
open Idealize.ShloMosaic
open scoped BigOperators

/-- Column vector entries as the box a row describes. -/
abbrev colBox (x1 y1 x2 y2 : Vec Ideal S512x1 .f32) (r : Fin 512) : Fin 4 → EReal :=
  ![x1 (ix2 r 0), y1 (ix2 r 0), x2 (ix2 r 0), y2 (ix2 r 0)]

/-- Row vector entries as the box a lane describes. -/
abbrev rowBox (x1 y1 x2 y2 : Vec Ideal S1x512 .f32) (c : Fin 512) : Fin 4 → EReal :=
  ![x1 (ix2 0 c), y1 (ix2 0 c), x2 (ix2 0 c), y2 (ix2 0 c)]

/-- Against one block of (masked) boxes: the running flag, or the flag "some box of the block overlaps". -/
theorem cross_apply (x1 y1 x2 y2 : Vec Ideal S512x1 .f32) (acc : FVec Ideal S512x1 .f32)
    (w1 w2 w3 w4 : Vec Ideal S1x512 .f32) (r : Fin 512) :
    k0_pay12 x1 y1 x2 y2 acc w1 w2 w3 w4 (ix2 r 0)
      = max (acc (ix2 r 0)) (ind (∃ c : Fin 512, over (colBox x1 y1 x2 y2 r) (rowBox w1 w2 w3 w4 c))) := by
  pointwise [k0_pay12, k0_pay10, k0_pay6, k0_pay7, k0_pay8, k0_pay9]
  rw [ofBits_neg_inf]
  refine congrArg (max _) (Eq.trans (Finset.fold_congr
    (g := fun c : Fin 512 => ind (over (colBox x1 y1 x2 y2 r) (rowBox w1 w2 w3 w4 c))) fun c _ => ?_) (fold_max_ind _))
  exact ite_eq_ind _

/-- The strictly lower triangular 0/1 matrix. -/
theorem lower_apply (r c : Fin 512) : k0_pay1 (F := Ideal) (ix2 r c) = ind (c < r) := by
  pointwise [k0_pay1]
  have h : IntOp.cmpi CmpIPredicate.slt (BitVec.ofNat 32 c.val) (BitVec.ofNat 32 r.val) = BitVec.ofBool (decide (c < r)) := by
    have hc := c.isLt
    have hr := r.isLt
    simp only [IntOp.cmpi, BitVec.slt, BitVec.toInt_eq_toNat_cond, BitVec.toNat_ofNat, Fin.lt_def]
    congr 1
    rw [decide_eq_decide]
    split <;> split <;> omega
  rw [h]
  by_cases hc : c < r
  · rw [ind_true hc]
    simp only [hc, decide_true]
    show (((BitVec.setWidth 32 (BitVec.ofBool true)).toInt : ℝ) : EReal) = 1
    rw [show (BitVec.setWidth 32 (BitVec.ofBool true)).toInt = 1 from by decide]
    norm_num
  · rw [ind_false hc]
    simp only [hc, decide_false]
    show (((BitVec.setWidth 32 (BitVec.ofBool false)).toInt : ℝ) : EReal) = 0
    rw [show (BitVec.setWidth 32 (BitVec.ofBool false)).toInt = 0 from by decide]
    norm_num

/-- The block's own mask: box `c` comes before box `r` in the block and overlaps it. -/
theorem mask_apply (x1 y1 x2 y2 : Vec Ideal S512x1 .f32) (w1 w2 w3 w4 : Vec Ideal S1x512 .f32) (r c : Fin 512) :
    k0_pay20 (F := Ideal) (k0_pay1 (F := Ideal)) (k0_pay6 x1) (k0_pay7 y1) (k0_pay8 x2) (k0_pay9 y2) (k0_pay10 x1 y1 x2 y2)
        (k0_pay15 w1) (k0_pay16 w2) (k0_pay17 w3) (k0_pay18 w4) (k0_pay19 w1 w3) (ix2 r c)
      = ind (over (colBox x1 y1 x2 y2 r) (rowBox w1 w2 w3 w4 c) ∧ c < r) := by
  rw [← ind_mul, ← lower_apply]
  pointwise [k0_pay20, k0_pay10, k0_pay6, k0_pay7, k0_pay8, k0_pay9, k0_pay15, k0_pay16, k0_pay17, k0_pay18, k0_pay19]
  rw [ite_eq_ind]
  rfl

/-- The start vector: the validity flag where nothing kept before the block overlaps, else zero. -/
theorem start_apply (val supp : FVec Ideal S512x1 .f32) (p q : Prop) (r : Fin 512)
    (hv : val (ix2 r 0) = ind p) (hs : supp (ix2 r 0) = ind q) :
    k0_pay14 (F := Ideal) val supp (ix2 r 0) = ind (p ∧ ¬ q) := by
  pointwise [k0_pay14]
  rw [hv, hs, ind_one_sub, ind_mul]

/-- The flag the cross loop starts from is zero. -/
theorem zero_apply (r : Fin 512) : k0_pay11 (F := Ideal) (ix2 r 0) = 0 := by
  pointwise [k0_pay11]

/-- A column holds the indicators of `q`. -/
def Holds (a : FVec Ideal S512x1 .f32) (q : Fin 512 → Prop) : Prop := ∀ r, a (ix2 r 0) = ind (q r)

/-- One round of the settling loop on indicators is one round of the rule. -/
theorem round_apply {m : FVec Ideal S512x512 .f32} {v a : FVec Ideal S512x1 .f32} {O : Fin 512 → Fin 512 → Prop}
    {V q : Fin 512 → Prop} (hm : ∀ r c, m (ix2 r c) = ind (O r c ∧ c < r)) (hv : Holds v V) (ha : Holds a q) :
    Holds (k0_pay4 (F := Ideal) m v a) (nextq V O q) := by
  intro r
  pointwise [k0_pay4]
  simp only [hm, ha _, hv _, ind_mul, show Ideal.ofBits .f32 1056964608#32 = half from rfl]
  have hs := lt_sum_ind half half_nonneg half_lt_one fun x : Fin 512 => (O r x ∧ x < r) ∧ q x
  by_cases h : ∃ x, (O r x ∧ x < r) ∧ q x
  · rw [if_pos (hs.mpr h), ind_false]
    rintro ⟨-, hn⟩
    obtain ⟨x, ⟨ho, hx⟩, hq⟩ := h
    exact hn x hx hq ho
  · rw [if_neg (fun hl => h (hs.mp hl))]
    refine ind_congr ⟨fun hV => ⟨hV, fun c hc hq ho => h ⟨c, ⟨ho, hc⟩, hq⟩⟩, fun hn => hn.1⟩

/-- The change flag of a round: set exactly when some entry changed. -/
theorem changed_apply (m : FVec Ideal S512x512 .f32) (v a : FVec Ideal S512x1 .f32) :
    Scalar.cmpf .ogt (k0_pay5 (F := Ideal) m v a) (Scalar.ofBits .f32 0x00000000#32)
      = if ∃ r : Fin 512, k0_pay4 (F := Ideal) m v a (ix2 r 0) ≠ a (ix2 r 0) then 1#1 else 0#1 := by
  classical
  have h : k0_pay5 (F := Ideal) m v a = ind (∃ r : Fin 512, k0_pay4 (F := Ideal) m v a (ix2 r 0) ≠ a (ix2 r 0)) := by
    unfold k0_pay5
    unfold extractAt
    pointwise
    rw [ofBits_neg_inf]
    simp only [ite_eq_ind]
    have hf := fold_max_ind fun x : Fin 512 × Fin 1 => k0_pay4 (F := Ideal) m v a (ix2 x.1 0) ≠ a (ix2 x.1 0)
    refine hf.trans (ind_congr ⟨fun ⟨x, hx⟩ => ⟨x.1, hx⟩, fun ⟨r, hr⟩ => ⟨(r, 0), hr⟩⟩)
  rw [h]
  have hz : (Scalar.ofBits (F := Ideal) .f32 0x00000000#32) = (0 : EReal) := by
    show Ideal.ofBits .f32 0x00000000#32 = 0
    simp [Ideal.ofBits, Ideal.ieee]
  rw [hz]
  show BitVec.ofBool (decide ((0 : EReal) < _)) = _
  by_cases hp : ∃ r : Fin 512, k0_pay4 (F := Ideal) m v a (ix2 r 0) ≠ a (ix2 r 0)
  · rw [ind_true hp, if_pos hp]; simp
  · rw [ind_false hp, if_neg hp]; simp

/-- The settled column laid out as a row. -/
theorem row_apply (a : FVec Ideal S512x1 .f32) (c : Fin 512) :
    k0_pay21 (F := Ideal) k0_pay2 a (ix2 0 c) = a (ix2 c 0) := by
  pointwise [k0_pay21, k0_pay2]
  have h : ∀ x : Fin 512, Scalar.select (IntOp.cmpi CmpIPredicate.eq (BitVec.ofNat 32 x.val) (BitVec.ofNat 32 c.val)) (a (ix2 x 0)) 0
      = if x = c then a (ix2 x 0) else (0 : EReal) := by
    intro x
    have hx := x.isLt
    have hc := c.isLt
    have e : IntOp.cmpi CmpIPredicate.eq (BitVec.ofNat 32 x.val) (BitVec.ofNat 32 c.val) = BitVec.ofBool (decide (x = c)) := by
      simp only [IntOp.cmpi]
      congr 1
      rw [Bool.eq_iff_iff, beq_iff_eq, decide_eq_true_iff, Fin.ext_iff]
      constructor
      · intro he
        have := congrArg BitVec.toNat he
        simpa [Nat.mod_eq_of_lt (show x.val < 4294967296 by omega), Nat.mod_eq_of_lt (show c.val < 4294967296 by omega)] using this
      · intro he; rw [he]
    rw [e]
    by_cases hxc : x = c
    · simp [hxc, Scalar.select]
    · simp [hxc, Scalar.select]
  rw [Finset.sum_congr rfl fun x _ => h x]
  exact sum_diag c fun x => a (ix2 x 0)

/-- The block's coordinates, each lane multiplied by its settled flag. -/
theorem masked_apply (a : FVec Ideal S512x1 .f32) (w : FVec Ideal S8x512 .f32) (d : Fin 8) (c : Fin 512) :
    k0_pay22 (F := Ideal) k0_pay2 a w (ix2 d c) = w (ix2 d c) * a (ix2 c 0) := by
  rw [← row_apply a c]
  pointwise [k0_pay22]

/-- Storing the masked coordinates stores them as they are. -/
theorem stored_apply (w : FVec Ideal S8x512 .f32) : k0_pay3 (F := Ideal) w = w := by
  funext j
  pointwise [k0_pay3]

end Cert.Proof

end
-- ==== Proof.While.lean ====
/-
  The settling loop of one block. The loop keeps applying the block's round to a column of 0/1 flags until a round
  changes nothing. A round fixes at least one further row, so after at most 512 rounds the column is the rule's
  solution; one more round then reports "no change" and the loop stops. Stated here as: the loop, entered on flags that
  are right on the first `t` rows, returns a column that is right on every row.
-/
module

public import proofs.«01_k».proof.Proof.BlockMath
public import Idealize.ShloMosaic.Lib.Pipeline.FrameSuffix
public import Idealize.ShloMosaic.Lib.Tactic

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Rounds still to run are counted by a natural number. -/
abbrev 𝒱₀ : Variants := Variants.nat

/-- What the settling loop promises: it returns a column of flags equal to `K` on every row. -/
def settles (K : Fin 512 → Prop) : sWPT 𝕄 (FVec Ideal S512x1 .f32 × BitVec 1) := do
  let r ← sWPT.arbitrary
  sWPT.assume (Holds r.1 K)
  pure r

/-- The promise applied to a continuation: it must hold for every returned column equal to `K`. -/
theorem settles_apply (K : Fin 512 → Prop) (Q : FVec Ideal S512x1 .f32 × BitVec 1 → sProp 𝕄) :
    settles K Q = iprop(∀ r : FVec Ideal S512x1 .f32 × BitVec 1, ⌜Holds r.1 K⌝ -∗ Q r) := rfl

/-- With the change flag up and `t` rows settled there are at most `512 - t` rounds to go. The loop entered with its
    column at `q`, `q` right on the first `t` rows, and right everywhere when the flag is down, keeps its promise. -/
theorem settles_le (c : Dev nD) (k : Fin k0_t1_loop.trips) (m : FVec Ideal S512x512 .f32) (v : FVec Ideal S512x1 .f32)
    {O : Fin 512 → Fin 512 → Prop} {V K : Fin 512 → Prop} (hm : ∀ r c, m (ix2 r c) = ind (O r c ∧ c < r)) (hv : Holds v V)
    (hK : ∀ r, K r ↔ nextq V O K r) (E : Set ℕ) :
    ∀ (n t : ℕ), t + n = 514 → ∀ (q : Fin 512 → Prop) (a : FVec Ideal S512x1 .f32) (flag : BitVec 1), Holds a q →
      (∀ r : Fin 512, r.val < t → (q r ↔ K r)) → (flag ≠ 1#1 → ∀ r, q r ↔ K r) → (flag = 1#1 → t ≤ 512) →
      ∀ Q, settles K Q ⊢ wp frame (wpE (defs₀ (F := Ideal)) 𝒱₀ (c : Thread nD τ) (some n)) E
        (defs₀ (F := Ideal) .tc 1 ⟨k, m, v, a, flag⟩) Q := by
  intro n
  induction n with
  | zero =>
    intro t ht q a flag ha hq hf hn Q
    rw [settles_apply]
    show _ ⊢ wp frame (wpE (defs₀ (F := Ideal)) 𝒱₀ (c : Thread nD τ) (some 0)) E (cc0_while1 k m v a flag) Q
    rw [cc0_while1_eq_skeleton]; unfold cc0_while1_skel
    have hflag : ¬ flag = 1#1 := fun h => by have := hn h; omega
    simp only [hflag, ↓reduceIte, Prog.pure_eq_ret]
    iintro Hk
    rw [wp_ret]; imodintro
    iapply Hk
    ipureintro
    exact fun r => (ha r).trans (ind_congr (hf hflag r))
  | succ n ih =>
    intro t ht q a flag ha hq hf hn Q
    rw [settles_apply]
    show _ ⊢ wp frame (wpE (defs₀ (F := Ideal)) 𝒱₀ (c : Thread nD τ) (some (n + 1))) E (cc0_while1 k m v a flag) Q
    rw [cc0_while1_eq_skeleton]; unfold cc0_while1_skel
    by_cases hflag : flag = 1#1
    · have ht2 := hn hflag
      simp only [hflag, ↓reduceIte, Prog.lift, Prog.bind_op, Prog.bind_ret, Prog.pure_eq_ret]
      have hround := round_apply hm hv ha
      have hpre : ∀ r : Fin 512, r.val < t + 1 → (nextq V O q r ↔ K r) := nextq_prefix hK t hq
      have hstop : Scalar.cmpf .ogt (k0_pay5 (F := Ideal) m v a) (Scalar.ofBits .f32 0x00000000#32) ≠ 1#1 →
          ∀ r, nextq V O q r ↔ K r := by
        intro hne
        rw [changed_apply] at hne
        have hsame : ∀ r, nextq V O q r ↔ q r := by
          intro r
          by_contra hr
          refine hne (if_pos ⟨r, fun he => hr ?_⟩)
          rw [hround r, ha r] at he
          exact ind_inj.mp he
        intro r
        exact (hsame r).trans (nextq_fix hK hsame r)
      have hmore : Scalar.cmpf .ogt (k0_pay5 (F := Ideal) m v a) (Scalar.ofBits .f32 0x00000000#32) = 1#1 → t + 1 ≤ 512 := by
        intro he
        by_contra hlt
        rw [changed_apply] at he
        have hall : ∀ r, nextq V O q r ↔ q r := by
          intro r
          have hr : r.val < t := by have := r.isLt; omega
          exact (hpre r (by omega)).trans (hq r hr).symm
        rw [if_neg] at he
        · exact absurd he (by decide)
        · rintro ⟨r, hr⟩
          exact hr ((hround r).trans ((ind_congr (hall r)).trans (ha r).symm))
      have hcall := ih (t + 1) (by omega) (nextq V O q) _ _ hround hpre hstop hmore
      iintro Hk
      iapply (wp_call_spec 𝒱₀ (c : Thread nD τ) (some (n + 1)) E (settles K) n
        (fun u hu => by cases hu; exact Nat.lt_succ_self n) hcall)
      rw [settles_apply]
      iintro %r %hr
      rw [wp_ret]; imodintro
      iapply Hk
      ipureintro
      exact hr
    · simp only [hflag, ↓reduceIte, Prog.pure_eq_ret]
      iintro Hk
      rw [wp_ret]; imodintro
      iapply Hk
      ipureintro
      exact fun r => (ha r).trans (ind_congr (hf hflag r))

end Cert.Proof

end
-- ==== Proof.Loads.lean ====
/-
  Where the block loop reads and writes. Trip `k` works on rows (or lanes) `512 k` to `512 k + 511` of the arrays; trip
  `j` of its inner loop reads lanes `512 j` on. Here: the trip counts, the offsets in closed form, what each load reads
  at an index, and what each store leaves at an index.
-/
module

public import proofs.«01_k».proof.Proof.BlockMath
public import Idealize.ShloMosaic.Lib.Pipeline.FrameSuffix
public import Idealize.ShloMosaic.Lib.Tactic

@[expose] public section

set_option maxRecDepth 16384

noncomputable section

namespace Cert.Proof

open Cert.KernelIdeal Cert.KernelIdeal.Gen
open Idealize.ShloMosaic
open Idealize.ShloMosaic.TcCoe Idealize.ShloMosaic.Tactic

/-! ### Trip counts -/

/-- The block loop runs ten times. -/
theorem blocks_eq : k0_t1_loop.trips = 10 := by decide +kernel

/-- In trip `k` the loop over earlier blocks runs `k` times, -/
theorem earlier_eq : ∀ k : Fin k0_t1_loop.trips, (k0_t2_loop k).trips = k.val := by decide +kernel

/-- and its remainder loop not at all. -/
theorem rest_eq : ∀ k : Fin k0_t1_loop.trips, (k0_t3_loop k).trips = 0 := by decide +kernel

theorem block_lt (k : Fin k0_t1_loop.trips) : k.val < 10 := blocks_eq ▸ k.isLt

/-- Row `r` of block `k`. -/
abbrev at512 (k : Fin k0_t1_loop.trips) (r : Fin 512) : Fin 5120 := ⟨512 * k.val + r.val, by have := block_lt k; omega⟩

/-- Lane `c` of the earlier block `j`. -/
abbrev before512 (k : Fin k0_t1_loop.trips) (j : Fin (k0_t2_loop k).trips) (c : Fin 512) : Fin 5120 :=
  ⟨512 * j.val + c.val, by have := block_lt k; have := earlier_eq k; have := j.isLt; omega⟩

/-! ### Offsets -/

theorem off1_eq : ∀ k : Fin k0_t1_loop.trips, k0_off1 k = ![512 * k.val, 0] := by decide +kernel
theorem off2_eq : ∀ k : Fin k0_t1_loop.trips, k0_off2 k = ![512 * k.val, 1] := by decide +kernel
theorem off3_eq : ∀ k : Fin k0_t1_loop.trips, k0_off3 k = ![512 * k.val, 2] := by decide +kernel
theorem off4_eq : ∀ k : Fin k0_t1_loop.trips, k0_off4 k = ![512 * k.val, 3] := by decide +kernel
theorem off5_eq : ∀ k : Fin k0_t1_loop.trips, k0_off5 k = ![512 * k.val, 4] := by decide +kernel
theorem off6_eq : ∀ (k : Fin k0_t1_loop.trips) (j : Fin (k0_t2_loop k).trips), k0_off6 k j = ![0, 512 * j.val] := by decide +kernel
theorem off7_eq : ∀ (k : Fin k0_t1_loop.trips) (j : Fin (k0_t2_loop k).trips), k0_off7 k j = ![1, 512 * j.val] := by decide +kernel
theorem off8_eq : ∀ (k : Fin k0_t1_loop.trips) (j : Fin (k0_t2_loop k).trips), k0_off8 k j = ![2, 512 * j.val] := by decide +kernel
theorem off9_eq : ∀ (k : Fin k0_t1_loop.trips) (j : Fin (k0_t2_loop k).trips), k0_off9 k j = ![3, 512 * j.val] := by decide +kernel
theorem off14_eq : ∀ k : Fin k0_t1_loop.trips, k0_off14 k = ![0, 512 * k.val] := by decide +kernel
theorem off15_eq : ∀ k : Fin k0_t1_loop.trips, k0_off15 k = ![1, 512 * k.val] := by decide +kernel
theorem off16_eq : ∀ k : Fin k0_t1_loop.trips, k0_off16 k = ![2, 512 * k.val] := by decide +kernel
theorem off17_eq : ∀ k : Fin k0_t1_loop.trips, k0_off17 k = ![3, 512 * k.val] := by decide +kernel
theorem off18_eq : ∀ k : Fin k0_t1_loop.trips, k0_off18 k = ![0, 512 * k.val] := by decide +kernel
theorem off19_eq : ∀ k : Fin k0_t1_loop.trips, k0_off19 k = ![0, 512 * k.val] := by decide +kernel

/-! ### Loads -/

/-- A load through a unit rectangle of a whole buffer reads the buffer at the offset index. -/
theorem load_at (b : Ref sig .tc) {off size : Fin b.ty.shape.rank → ℕ} (inb : ∀ a, off a + size a ≤ b.ty.shape.size a)
    (f : b.ty.Contents (Elt Ideal)) (y : (Rect.unit off size inb).shape.Idx) (z : b.ty.shape.Idx)
    (off' : Fin b.ty.shape.rank → ℕ) (ho : off = off')
    (h' : ∀ a, (z a).val = off' a + (y a).val) :
    (Memref.whole b).view.readAt (Elt Ideal) (Rect.unit off size inb).toLoadRect f y = f z := by
  refine congrArg f (funext fun a => Fin.ext ?_)
  show off a + 1 * (y a).val = (z a).val
  rw [h' a, Nat.one_mul]
  exact congrArg (· + (y a).val) (congrFun ho a)

theorem col1 (k : Fin k0_t1_loop.trips) (f : cc0_stg1_0.ty.Contents (Elt Ideal)) (r : Fin 512) :
    (Memref.whole cc0_stg1_0).view.readAt (Elt Ideal) (Rect.unit (s := S5120x8) (k0_off1 k) S512x1.size (k0_off1_inb k)).toLoadRect f (ix2 r 0)
      = f (ix2 (at512 k r) 0) :=
  load_at cc0_stg1_0 (k0_off1_inb k) f (ix2 r 0) (ix2 (at512 k r) 0) _ (off1_eq k) fun a => by fin_cases a <;> rfl

theorem col2 (k : Fin k0_t1_loop.trips) (f : cc0_stg1_0.ty.Contents (Elt Ideal)) (r : Fin 512) :
    (Memref.whole cc0_stg1_0).view.readAt (Elt Ideal) (Rect.unit (s := S5120x8) (k0_off2 k) S512x1.size (k0_off2_inb k)).toLoadRect f (ix2 r 0)
      = f (ix2 (at512 k r) 1) :=
  load_at cc0_stg1_0 (k0_off2_inb k) f (ix2 r 0) (ix2 (at512 k r) 1) _ (off2_eq k) fun a => by fin_cases a <;> rfl

theorem col3 (k : Fin k0_t1_loop.trips) (f : cc0_stg1_0.ty.Contents (Elt Ideal)) (r : Fin 512) :
    (Memref.whole cc0_stg1_0).view.readAt (Elt Ideal) (Rect.unit (s := S5120x8) (k0_off3 k) S512x1.size (k0_off3_inb k)).toLoadRect f (ix2 r 0)
      = f (ix2 (at512 k r) 2) :=
  load_at cc0_stg1_0 (k0_off3_inb k) f (ix2 r 0) (ix2 (at512 k r) 2) _ (off3_eq k) fun a => by fin_cases a <;> rfl

theorem col4 (k : Fin k0_t1_loop.trips) (f : cc0_stg1_0.ty.Contents (Elt Ideal)) (r : Fin 512) :
    (Memref.whole cc0_stg1_0).view.readAt (Elt Ideal) (Rect.unit (s := S5120x8) (k0_off4 k) S512x1.size (k0_off4_inb k)).toLoadRect f (ix2 r 0)
      = f (ix2 (at512 k r) 3) :=
  load_at cc0_stg1_0 (k0_off4_inb k) f (ix2 r 0) (ix2 (at512 k r) 3) _ (off4_eq k) fun a => by fin_cases a <;> rfl

theorem col5 (k : Fin k0_t1_loop.trips) (f : cc0_stg1_0.ty.Contents (Elt Ideal)) (r : Fin 512) :
    (Memref.whole cc0_stg1_0).view.readAt (Elt Ideal) (Rect.unit (s := S5120x8) (k0_off5 k) S512x1.size (k0_off5_inb k)).toLoadRect f (ix2 r 0)
      = f (ix2 (at512 k r) 4) :=
  load_at cc0_stg1_0 (k0_off5_inb k) f (ix2 r 0) (ix2 (at512 k r) 4) _ (off5_eq k) fun a => by fin_cases a <;> rfl

theorem pre1 (k : Fin k0_t1_loop.trips) (j : Fin (k0_t2_loop k).trips) (f : cc0_scratch0.ty.Contents (Elt Ideal)) (c : Fin 512) :
    (Memref.whole cc0_scratch0).view.readAt (Elt Ideal) (Rect.unit (s := S8x5120) (k0_off6 k j) S1x512.size (k0_off6_inb k j)).toLoadRect f (ix2 0 c)
      = f (ix2 0 (before512 k j c)) :=
  load_at cc0_scratch0 (k0_off6_inb k j) f (ix2 0 c) (ix2 0 (before512 k j c)) _ (off6_eq k j) fun a => by fin_cases a <;> rfl

theorem pre2 (k : Fin k0_t1_loop.trips) (j : Fin (k0_t2_loop k).trips) (f : cc0_scratch0.ty.Contents (Elt Ideal)) (c : Fin 512) :
    (Memref.whole cc0_scratch0).view.readAt (Elt Ideal) (Rect.unit (s := S8x5120) (k0_off7 k j) S1x512.size (k0_off7_inb k j)).toLoadRect f (ix2 0 c)
      = f (ix2 1 (before512 k j c)) :=
  load_at cc0_scratch0 (k0_off7_inb k j) f (ix2 0 c) (ix2 1 (before512 k j c)) _ (off7_eq k j) fun a => by fin_cases a <;> rfl

theorem pre3 (k : Fin k0_t1_loop.trips) (j : Fin (k0_t2_loop k).trips) (f : cc0_scratch0.ty.Contents (Elt Ideal)) (c : Fin 512) :
    (Memref.whole cc0_scratch0).view.readAt (Elt Ideal) (Rect.unit (s := S8x5120) (k0_off8 k j) S1x512.size (k0_off8_inb k j)).toLoadRect f (ix2 0 c)
      = f (ix2 2 (before512 k j c)) :=
  load_at cc0_scratch0 (k0_off8_inb k j) f (ix2 0 c) (ix2 2 (before512 k j c)) _ (off8_eq k j) fun a => by fin_cases a <;> rfl

theorem pre4 (k : Fin k0_t1_loop.trips) (j : Fin (k0_t2_loop k).trips) (f : cc0_scratch0.ty.Contents (Elt Ideal)) (c : Fin 512) :
    (Memref.whole cc0_scratch0).view.readAt (Elt Ideal) (Rect.unit (s := S8x5120) (k0_off9 k j) S1x512.size (k0_off9_inb k j)).toLoadRect f (ix2 0 c)
      = f (ix2 3 (before512 k j c)) :=
  load_at cc0_scratch0 (k0_off9_inb k j) f (ix2 0 c) (ix2 3 (before512 k j c)) _ (off9_eq k j) fun a => by fin_cases a <;> rfl

theorem lane1 (k : Fin k0_t1_loop.trips) (f : cc0_stg0_0.ty.Contents (Elt Ideal)) (c : Fin 512) :
    (Memref.whole cc0_stg0_0).view.readAt (Elt Ideal) (Rect.unit (s := S8x5120) (k0_off14 k) S1x512.size (k0_off14_inb k)).toLoadRect f (ix2 0 c)
      = f (ix2 0 (at512 k c)) :=
  load_at cc0_stg0_0 (k0_off14_inb k) f (ix2 0 c) (ix2 0 (at512 k c)) _ (off14_eq k) fun a => by fin_cases a <;> rfl

theorem lane2 (k : Fin k0_t1_loop.trips) (f : cc0_stg0_0.ty.Contents (Elt Ideal)) (c : Fin 512) :
    (Memref.whole cc0_stg0_0).view.readAt (Elt Ideal) (Rect.unit (s := S8x5120) (k0_off15 k) S1x512.size (k0_off15_inb k)).toLoadRect f (ix2 0 c)
      = f (ix2 1 (at512 k c)) :=
  load_at cc0_stg0_0 (k0_off15_inb k) f (ix2 0 c) (ix2 1 (at512 k c)) _ (off15_eq k) fun a => by fin_cases a <;> rfl

theorem lane3 (k : Fin k0_t1_loop.trips) (f : cc0_stg0_0.ty.Contents (Elt Ideal)) (c : Fin 512) :
    (Memref.whole cc0_stg0_0).view.readAt (Elt Ideal) (Rect.unit (s := S8x5120) (k0_off16 k) S1x512.size (k0_off16_inb k)).toLoadRect f (ix2 0 c)
      = f (ix2 2 (at512 k c)) :=
  load_at cc0_stg0_0 (k0_off16_inb k) f (ix2 0 c) (ix2 2 (at512 k c)) _ (off16_eq k) fun a => by fin_cases a <;> rfl

theorem lane4 (k : Fin k0_t1_loop.trips) (f : cc0_stg0_0.ty.Contents (Elt Ideal)) (c : Fin 512) :
    (Memref.whole cc0_stg0_0).view.readAt (Elt Ideal) (Rect.unit (s := S8x5120) (k0_off17 k) S1x512.size (k0_off17_inb k)).toLoadRect f (ix2 0 c)
      = f (ix2 3 (at512 k c)) :=
  load_at cc0_stg0_0 (k0_off17_inb k) f (ix2 0 c) (ix2 3 (at512 k c)) _ (off17_eq k) fun a => by fin_cases a <;> rfl

theorem lanes (k : Fin k0_t1_loop.trips) (f : cc0_stg0_0.ty.Contents (Elt Ideal)) (d : Fin 8) (c : Fin 512) :
    (Memref.whole cc0_stg0_0).view.readAt (Elt Ideal) (Rect.unit (s := S8x5120) (k0_off19 k) S8x512.size (k0_off19_inb k)).toLoadRect f (ix2 d c)
      = f (ix2 d (at512 k c)) :=
  load_at cc0_stg0_0 (k0_off19_inb k) f (ix2 d c) (ix2 d (at512 k c)) _ (off19_eq k) fun a => by
    fin_cases a
    · exact (Nat.zero_add _).symm
    · rfl

/-! ### Stores -/

/-- A store through a unit rectangle of a whole buffer leaves the stored value inside the rectangle -/
theorem store_in (b : Ref sig .tc) {off size : Fin b.ty.shape.rank → ℕ} (inb : ∀ a, off a + size a ≤ b.ty.shape.size a)
    (f : b.ty.Contents (Elt Ideal)) (w : (Rect.unit off size inb).shape.Idx → Elt Ideal b.ty.elt)
    (y : (Rect.unit off size inb).shape.Idx) (z : b.ty.shape.Idx) (off' : Fin b.ty.shape.rank → ℕ) (ho : off = off')
    (h' : ∀ a, (z a).val = off' a + (y a).val) :
    ((Memref.whole b).access (Rect.unit off size inb) : View sig .tc _ _ _).write (Elt Ideal) f w Finset.univ z = w y := by
  have h : ∀ a, (z a).val = off a + (y a).val := fun a => (h' a).trans (congrArg (· + (y a).val) (congrFun ho.symm a))
  rw [show ((Memref.whole b).access (Rect.unit off size inb) : View sig .tc _ _ _).write (Elt Ideal) f w Finset.univ
    = updateSlice f w off ⟨rfl, inb⟩ from View.write_whole_slice_unit b off size inb f w]
  unfold updateSlice
  have hin : ∀ a, off a ≤ (z a).val ∧ (z a).val < off a + size a := fun a =>
    ⟨by rw [h a]; omega, by rw [h a]; have : (y a).val < size a := (y a).isLt; omega⟩
  refine Eq.trans (dif_pos hin) ?_
  refine congrArg w (funext fun a => Fin.ext ?_)
  show (z a).val - off a = (y a).val
  rw [h a]; omega

/-- and the old value outside it. -/
theorem store_out (b : Ref sig .tc) {off size : Fin b.ty.shape.rank → ℕ} (inb : ∀ a, off a + size a ≤ b.ty.shape.size a)
    (f : b.ty.Contents (Elt Ideal)) (w : (Rect.unit off size inb).shape.Idx → Elt Ideal b.ty.elt)
    (z : b.ty.shape.Idx) (a : Fin b.ty.shape.rank) (h : (z a).val < off a) :
    ((Memref.whole b).access (Rect.unit off size inb) : View sig .tc _ _ _).write (Elt Ideal) f w Finset.univ z = f z := by
  rw [show ((Memref.whole b).access (Rect.unit off size inb) : View sig .tc _ _ _).write (Elt Ideal) f w Finset.univ
    = updateSlice f w off ⟨rfl, inb⟩ from View.write_whole_slice_unit b off size inb f w]
  unfold updateSlice
  exact dif_neg fun hin => absurd (hin a).1 (Nat.not_le.mpr h)

/-- The result row after trip `k`: the stored flags on block `k`, -/
theorem row_in (k : Fin k0_t1_loop.trips) (f : cc0_stg2_0.ty.Contents (Elt Ideal)) (w : FVec Ideal S1x512 .f32) (c : Fin 512) :
    ((Memref.whole cc0_stg2_0).access (Rect.unit (s := S1x5120) (k0_off18 k) S1x512.size (k0_off18_inb k)) : View sig .tc _ _ _).write
      (Elt Ideal) f w Finset.univ (ix2 0 (at512 k c)) = w (ix2 0 c) :=
  store_in cc0_stg2_0 (k0_off18_inb k) f w (ix2 0 c) (ix2 0 (at512 k c)) _ (off18_eq k) fun a => by fin_cases a <;> rfl

/-- the earlier flags before it. -/
theorem row_out (k : Fin k0_t1_loop.trips) (f : cc0_stg2_0.ty.Contents (Elt Ideal)) (w : FVec Ideal S1x512 .f32) (c : Fin 5120)
    (hc : c.val < 512 * k.val) :
    ((Memref.whole cc0_stg2_0).access (Rect.unit (s := S1x5120) (k0_off18 k) S1x512.size (k0_off18_inb k)) : View sig .tc _ _ _).write
      (Elt Ideal) f w Finset.univ (ix2 0 c) = f (ix2 0 c) :=
  store_out cc0_stg2_0 (k0_off18_inb k) f w (ix2 0 c) 1 (by have := congrFun (off18_eq k) 1; exact this ▸ hc)

/-- The kept coordinates after trip `k`: the stored ones on block `k`, -/
theorem kept_in (k : Fin k0_t1_loop.trips) (f : cc0_scratch0.ty.Contents (Elt Ideal)) (w : FVec Ideal S8x512 .f32) (d : Fin 8) (c : Fin 512) :
    ((Memref.whole cc0_scratch0).access (Rect.unit (s := S8x5120) (k0_off19 k) S8x512.size (k0_off19_inb k)) : View sig .tc _ _ _).write
      (Elt Ideal) f w Finset.univ (ix2 d (at512 k c)) = w (ix2 d c) :=
  store_in cc0_scratch0 (k0_off19_inb k) f w (ix2 d c) (ix2 d (at512 k c)) _ (off19_eq k) fun a => by
    fin_cases a
    · exact (Nat.zero_add _).symm
    · rfl

/-- the earlier ones before it. -/
theorem kept_out (k : Fin k0_t1_loop.trips) (f : cc0_scratch0.ty.Contents (Elt Ideal)) (w : FVec Ideal S8x512 .f32) (d : Fin 8) (c : Fin 5120)
    (hc : c.val < 512 * k.val) :
    ((Memref.whole cc0_scratch0).access (Rect.unit (s := S8x5120) (k0_off19 k) S8x512.size (k0_off19_inb k)) : View sig .tc _ _ _).write
      (Elt Ideal) f w Finset.univ (ix2 d c) = f (ix2 d c) :=
  store_out cc0_scratch0 (k0_off19_inb k) f w (ix2 d c) 1 (by have := congrFun (off19_eq k) 1; exact this ▸ hc)

end Cert.Proof

end
-- ==== Proof.Trip.lean ====
/-
  What one trip of the block loop computes, as a statement about numbers: given the boxes and validity flags the arrays
  hold, the cross loop accumulates the flag "a box kept earlier overlaps", the start column is "valid and not
  suppressed earlier", and the greedy rule on the whole list restricted to the block is the block's own settling rule.
-/
module

public import proofs.«01_k».proof.Proof.Loads

@[expose] public section

set_option maxRecDepth 16384

noncomputable section

namespace Cert.Proof

open Cert.KernelIdeal Cert.KernelIdeal.Gen
open Idealize.ShloMosaic

/-- The two operands of the kernel hold the boxes (once by rows, once by columns) and the validity flags. -/
structure Inputs (box : ℕ → Fin 4 → EReal) (valid : ℕ → Prop) (X0 : cc0_stg0_0.ty.Contents (Elt Ideal))
    (X1 : cc0_stg1_0.ty.Contents (Elt Ideal)) : Prop where
  row1 : ∀ r : Fin 5120, X0 (ix2 0 r) = box r.val 0
  row2 : ∀ r : Fin 5120, X0 (ix2 1 r) = box r.val 1
  row3 : ∀ r : Fin 5120, X0 (ix2 2 r) = box r.val 2
  row4 : ∀ r : Fin 5120, X0 (ix2 3 r) = box r.val 3
  col1 : ∀ r : Fin 5120, X1 (ix2 r 0) = box r.val 0
  col2 : ∀ r : Fin 5120, X1 (ix2 r 1) = box r.val 1
  col3 : ∀ r : Fin 5120, X1 (ix2 r 2) = box r.val 2
  col4 : ∀ r : Fin 5120, X1 (ix2 r 3) = box r.val 3
  flag : ∀ r : Fin 5120, X1 (ix2 r 4) = ind (valid r.val)

/-- A coordinate, zeroed where the box is not kept. -/
abbrev masked (x : EReal) (p : Prop) : EReal := x * ind p

/-- The flags stored before block `k` are the rule's. -/
def RowDone (box : ℕ → Fin 4 → EReal) (valid : ℕ → Prop) (k : ℕ) (f : cc0_stg2_0.ty.Contents (Elt Ideal)) : Prop :=
  ∀ c : Fin 5120, c.val < 512 * k → f (ix2 0 c) = ind (kept valid (ovl box) c.val)

/-- The coordinates stored before block `k` are the boxes', zeroed where the box is not kept. -/
def KeptDone (box : ℕ → Fin 4 → EReal) (valid : ℕ → Prop) (X0 : cc0_stg0_0.ty.Contents (Elt Ideal)) (k : ℕ)
    (f : cc0_scratch0.ty.Contents (Elt Ideal)) : Prop :=
  ∀ (d : Fin 8) (c : Fin 5120), c.val < 512 * k → f (ix2 d c) = masked (X0 (ix2 d c)) (kept valid (ovl box) c.val)

/-- The cross loop's flags after `j` earlier blocks, for the rows of block `k`. -/
def Crossed (box : ℕ → Fin 4 → EReal) (valid : ℕ → Prop) (k j : ℕ) (acc : FVec Ideal S512x1 .f32) : Prop :=
  ∀ r : Fin 512, acc (ix2 r 0) = ind (∃ c, c < 512 * j ∧ kept valid (ovl box) c ∧ ovl box (512 * k + r.val) c)

/-- Four numbers listed are the box they come from. -/
theorem box_eta (p : Fin 4 → EReal) : ![p 0, p 1, p 2, p 3] = p := by
  funext d; fin_cases d <;> rfl

/-- A box overlaps a zeroed-or-unchanged box exactly when the box was unchanged and overlaps. -/
theorem over_masked (p q : Fin 4 → EReal) (κ : Prop) :
    over p ![q 0 * ind κ, q 1 * ind κ, q 2 * ind κ, q 3 * ind κ] ↔ κ ∧ over p q := by
  by_cases h : κ
  · rw [ind_true h]
    simp only [mul_one, box_eta, h, true_and]
  · rw [ind_false h]
    simp only [h, false_and, iff_false]
    exact not_over_zero p _ (mul_zero _) (mul_zero _)

section

variable {box : ℕ → Fin 4 → EReal} {valid : ℕ → Prop}

/-- Before the first earlier block nothing is suppressed. -/
theorem crossed_zero (k : ℕ) : Crossed box valid k 0 (k0_pay11 (F := Ideal)) := by
  intro r
  rw [zero_apply, ind_false]
  rintro ⟨c, hc, -⟩
  omega

/-- One trip of the cross loop adds block `j` to the earlier blocks looked at. -/
theorem crossed_succ (k j : ℕ) {x1 y1 x2 y2 acc : FVec Ideal S512x1 .f32} {w1 w2 w3 w4 : FVec Ideal S1x512 .f32}
    (h1 : ∀ r : Fin 512, x1 (ix2 r 0) = box (512 * k + r.val) 0) (h2 : ∀ r : Fin 512, y1 (ix2 r 0) = box (512 * k + r.val) 1)
    (h3 : ∀ r : Fin 512, x2 (ix2 r 0) = box (512 * k + r.val) 2) (h4 : ∀ r : Fin 512, y2 (ix2 r 0) = box (512 * k + r.val) 3)
    (g1 : ∀ c : Fin 512, w1 (ix2 0 c) = box (512 * j + c.val) 0 * ind (kept valid (ovl box) (512 * j + c.val)))
    (g2 : ∀ c : Fin 512, w2 (ix2 0 c) = box (512 * j + c.val) 1 * ind (kept valid (ovl box) (512 * j + c.val)))
    (g3 : ∀ c : Fin 512, w3 (ix2 0 c) = box (512 * j + c.val) 2 * ind (kept valid (ovl box) (512 * j + c.val)))
    (g4 : ∀ c : Fin 512, w4 (ix2 0 c) = box (512 * j + c.val) 3 * ind (kept valid (ovl box) (512 * j + c.val)))
    (hacc : Crossed box valid k j acc) :
    Crossed box valid k (j + 1) (k0_pay12 (F := Ideal) x1 y1 x2 y2 acc w1 w2 w3 w4) := by
  intro r
  rw [cross_apply, hacc r, ind_max]
  refine ind_congr ?_
  have hp : ∀ c : Fin 512, over (colBox x1 y1 x2 y2 r) (rowBox w1 w2 w3 w4 c)
      ↔ kept valid (ovl box) (512 * j + c.val) ∧ ovl box (512 * k + r.val) (512 * j + c.val) := by
    intro c
    rw [colBox, rowBox, h1, h2, h3, h4, g1, g2, g3, g4, over_masked, box_eta]
  simp only [hp]
  constructor
  · rintro (⟨c, hc, h⟩ | ⟨c, h⟩)
    · exact ⟨c, by omega, h⟩
    · exact ⟨512 * j + c.val, by have := c.isLt; omega, h⟩
  · rintro ⟨c, hc, h⟩
    by_cases hj : c < 512 * j
    · exact .inl ⟨c, hj, h⟩
    · obtain ⟨d, rfl⟩ := Nat.exists_eq_add_of_le (Nat.le_of_not_lt hj)
      exact .inr ⟨⟨d, by omega⟩, h⟩

/-- The rows of block `k` that may start: valid, and overlapped by no box kept before the block. -/
abbrev starts (box : ℕ → Fin 4 → EReal) (valid : ℕ → Prop) (k : ℕ) (r : Fin 512) : Prop :=
  valid (512 * k + r.val) ∧ ∀ c < 512 * k, kept valid (ovl box) c → ¬ ovl box (512 * k + r.val) c

/-- The start column of block `k`. -/
theorem start_holds (k : ℕ) {val supp : FVec Ideal S512x1 .f32} (hv : ∀ r : Fin 512, val (ix2 r 0) = ind (valid (512 * k + r.val)))
    (hs : Crossed box valid k k supp) : Holds (k0_pay14 (F := Ideal) val supp) (starts box valid k) := by
  intro r
  rw [start_apply val supp _ _ r (hv r) (hs r)]
  refine ind_congr (and_congr_right fun _ => ?_)
  constructor
  · intro h c hc hk ho
    exact h ⟨c, hc, hk, ho⟩
  · rintro h ⟨c, hc, hk, ho⟩
    exact h c hc hk ho

/-- The block's own mask. -/
theorem mask_holds (k : ℕ) {x1 y1 x2 y2 : FVec Ideal S512x1 .f32} {w1 w2 w3 w4 : FVec Ideal S1x512 .f32}
    (h1 : ∀ r : Fin 512, x1 (ix2 r 0) = box (512 * k + r.val) 0) (h2 : ∀ r : Fin 512, y1 (ix2 r 0) = box (512 * k + r.val) 1)
    (h3 : ∀ r : Fin 512, x2 (ix2 r 0) = box (512 * k + r.val) 2) (h4 : ∀ r : Fin 512, y2 (ix2 r 0) = box (512 * k + r.val) 3)
    (g1 : ∀ c : Fin 512, w1 (ix2 0 c) = box (512 * k + c.val) 0) (g2 : ∀ c : Fin 512, w2 (ix2 0 c) = box (512 * k + c.val) 1)
    (g3 : ∀ c : Fin 512, w3 (ix2 0 c) = box (512 * k + c.val) 2) (g4 : ∀ c : Fin 512, w4 (ix2 0 c) = box (512 * k + c.val) 3)
    (r c : Fin 512) :
    k0_pay20 (F := Ideal) (k0_pay1 (F := Ideal)) (k0_pay6 x1) (k0_pay7 y1) (k0_pay8 x2) (k0_pay9 y2) (k0_pay10 x1 y1 x2 y2)
        (k0_pay15 w1) (k0_pay16 w2) (k0_pay17 w3) (k0_pay18 w4) (k0_pay19 w1 w3) (ix2 r c)
      = ind (ovl box (512 * k + r.val) (512 * k + c.val) ∧ c < r) := by
  rw [mask_apply, colBox, rowBox, h1, h2, h3, h4, g1, g2, g3, g4, box_eta, box_eta]

/-- The rule on block `k` is the block's settling rule. -/
theorem block_rule (k : ℕ) (r : Fin 512) :
    kept valid (ovl box) (512 * k + r.val)
      ↔ nextq (starts box valid k) (fun r c : Fin 512 => ovl box (512 * k + r.val) (512 * k + c.val))
          (fun r : Fin 512 => kept valid (ovl box) (512 * k + r.val)) r := by
  rw [kept_block, nextq]
  refine and_congr_right fun _ => ?_
  constructor
  · intro h c hc
    exact h c.val hc
  · intro h c hc
    exact h ⟨c, hc.trans r.isLt⟩ hc

/-- After trip `k` the flag row is right up to the end of block `k`. -/
theorem row_done (k : Fin k0_t1_loop.trips) {f : cc0_stg2_0.ty.Contents (Elt Ideal)} {a : FVec Ideal S512x1 .f32}
    (hf : RowDone box valid k.val f) (ha : Holds a fun r : Fin 512 => kept valid (ovl box) (512 * k.val + r.val)) :
    RowDone box valid (k.val + 1)
      (((Memref.whole cc0_stg2_0).access (Rect.unit (s := S1x5120) (k0_off18 k) S1x512.size (k0_off18_inb k)) : View sig .tc _ _ _).write
        (Elt Ideal) f (k0_pay21 (F := Ideal) k0_pay2 a) Finset.univ) := by
  intro c hc
  by_cases h : c.val < 512 * k.val
  · rw [row_out k f _ c h]; exact hf c h
  · have hd : c.val - 512 * k.val < 512 := by omega
    have e : c = at512 k ⟨c.val - 512 * k.val, hd⟩ := Fin.ext (by show c.val = 512 * k.val + (c.val - 512 * k.val); omega)
    rw [e, row_in k f _ _, row_apply, ha]

/-- After trip `k` the kept coordinates are right up to the end of block `k`. -/
theorem kept_done (k : Fin k0_t1_loop.trips) {X0 : cc0_stg0_0.ty.Contents (Elt Ideal)} {f : cc0_scratch0.ty.Contents (Elt Ideal)}
    {a : FVec Ideal S512x1 .f32} {w : FVec Ideal S8x512 .f32} (hw : ∀ (d : Fin 8) (c : Fin 512), w (ix2 d c) = X0 (ix2 d (at512 k c)))
    (hf : KeptDone box valid X0 k.val f) (ha : Holds a fun r : Fin 512 => kept valid (ovl box) (512 * k.val + r.val)) :
    KeptDone box valid X0 (k.val + 1)
      (((Memref.whole cc0_scratch0).access (Rect.unit (s := S8x5120) (k0_off19 k) S8x512.size (k0_off19_inb k)) : View sig .tc _ _ _).write
        (Elt Ideal) f (k0_pay3 (F := Ideal) (k0_pay22 (F := Ideal) k0_pay2 a w)) Finset.univ) := by
  intro d c hc
  by_cases h : c.val < 512 * k.val
  · rw [kept_out k f _ d c h]; exact hf d c h
  · have hd : c.val - 512 * k.val < 512 := by omega
    have e : c = at512 k ⟨c.val - 512 * k.val, hd⟩ := Fin.ext (by show c.val = 512 * k.val + (c.val - 512 * k.val); omega)
    rw [e, kept_in k f _ d _, stored_apply, masked_apply, hw, ha]

end

end Cert.Proof

end
-- ==== Proof.Body.lean ====
/-
  The kernel body. Holding its two operands, the flag row and the scratch of kept coordinates, the body runs the block
  loop; after trip `k` the flags and the kept coordinates are right for every box before block `k + 1` (`RowDone`,
  `KeptDone`), so after the ten trips the whole flag row is the greedy rule's.
-/
module

public import proofs.«01_k».proof.Proof.While
public import proofs.«01_k».proof.Proof.Trip

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ### The vectors a trip loads -/

/-- Column 0 of block `k`. -/
abbrev ldc1 (k : Fin k0_t1_loop.trips) (X1 : cc0_stg1_0.ty.Contents (Elt Ideal)) : FVec Ideal S512x1 .f32 :=
  (Memref.whole cc0_stg1_0).view.readAt (Elt Ideal) (Rect.unit (s := S5120x8) (k0_off1 k) S512x1.size (k0_off1_inb k)).toLoadRect X1
/-- Column 1 of block `k`. -/
abbrev ldc2 (k : Fin k0_t1_loop.trips) (X1 : cc0_stg1_0.ty.Contents (Elt Ideal)) : FVec Ideal S512x1 .f32 :=
  (Memref.whole cc0_stg1_0).view.readAt (Elt Ideal) (Rect.unit (s := S5120x8) (k0_off2 k) S512x1.size (k0_off2_inb k)).toLoadRect X1
/-- Column 2 of block `k`. -/
abbrev ldc3 (k : Fin k0_t1_loop.trips) (X1 : cc0_stg1_0.ty.Contents (Elt Ideal)) : FVec Ideal S512x1 .f32 :=
  (Memref.whole cc0_stg1_0).view.readAt (Elt Ideal) (Rect.unit (s := S5120x8) (k0_off3 k) S512x1.size (k0_off3_inb k)).toLoadRect X1
/-- Column 3 of block `k`. -/
abbrev ldc4 (k : Fin k0_t1_loop.trips) (X1 : cc0_stg1_0.ty.Contents (Elt Ideal)) : FVec Ideal S512x1 .f32 :=
  (Memref.whole cc0_stg1_0).view.readAt (Elt Ideal) (Rect.unit (s := S5120x8) (k0_off4 k) S512x1.size (k0_off4_inb k)).toLoadRect X1
/-- Column 4 of block `k`. -/
abbrev ldc5 (k : Fin k0_t1_loop.trips) (X1 : cc0_stg1_0.ty.Contents (Elt Ideal)) : FVec Ideal S512x1 .f32 :=
  (Memref.whole cc0_stg1_0).view.readAt (Elt Ideal) (Rect.unit (s := S5120x8) (k0_off5 k) S512x1.size (k0_off5_inb k)).toLoadRect X1
/-- Row 0 of block `k`. -/
abbrev ldr1 (k : Fin k0_t1_loop.trips) (X0 : cc0_stg0_0.ty.Contents (Elt Ideal)) : FVec Ideal S1x512 .f32 :=
  (Memref.whole cc0_stg0_0).view.readAt (Elt Ideal) (Rect.unit (s := S8x5120) (k0_off14 k) S1x512.size (k0_off14_inb k)).toLoadRect X0
/-- Row 1 of block `k`. -/
abbrev ldr2 (k : Fin k0_t1_loop.trips) (X0 : cc0_stg0_0.ty.Contents (Elt Ideal)) : FVec Ideal S1x512 .f32 :=
  (Memref.whole cc0_stg0_0).view.readAt (Elt Ideal) (Rect.unit (s := S8x5120) (k0_off15 k) S1x512.size (k0_off15_inb k)).toLoadRect X0
/-- Row 2 of block `k`. -/
abbrev ldr3 (k : Fin k0_t1_loop.trips) (X0 : cc0_stg0_0.ty.Contents (Elt Ideal)) : FVec Ideal S1x512 .f32 :=
  (Memref.whole cc0_stg0_0).view.readAt (Elt Ideal) (Rect.unit (s := S8x5120) (k0_off16 k) S1x512.size (k0_off16_inb k)).toLoadRect X0
/-- Row 3 of block `k`. -/
abbrev ldr4 (k : Fin k0_t1_loop.trips) (X0 : cc0_stg0_0.ty.Contents (Elt Ideal)) : FVec Ideal S1x512 .f32 :=
  (Memref.whole cc0_stg0_0).view.readAt (Elt Ideal) (Rect.unit (s := S8x5120) (k0_off17 k) S1x512.size (k0_off17_inb k)).toLoadRect X0

section

variable (c : Dev nD) (box : ℕ → Fin 4 → EReal) (valid : ℕ → Prop)
  (X0 : Buf (Elt Ideal) ((c : Thread nD τ).loc cc0_stg0_0)) (X1 : Buf (Elt Ideal) ((c : Thread nD τ).loc cc0_stg1_0))

/-- The three buffers a trip's first part touches. -/
def held3 (f3 : Buf (Elt Ideal) ((c : Thread nD τ).loc cc0_scratch0)) : sProp 𝕄 :=
  iprop((((c : Thread nD τ).loc cc0_stg0_0) ↦{fullShare} X0) ∗ (((c : Thread nD τ).loc cc0_stg1_0) ↦{fullShare} X1)
    ∗ (((c : Thread nD τ).loc cc0_scratch0) ↦{fullShare} f3))

/-- The cross loop's invariant: the flags after `j` earlier blocks, the kept coordinates held. -/
def crossInv (k : ℕ) (f3 : Buf (Elt Ideal) ((c : Thread nD τ).loc cc0_scratch0)) (j : ℕ) (acc : FVec Ideal S512x1 .f32) : sProp 𝕄 :=
  iprop(⌜Crossed box valid k j acc⌝ ∗ (((c : Thread nD τ).loc cc0_scratch0) ↦{fullShare} f3))

variable (hin : Inputs box valid X0 X1)

include hin in
/-- One trip of the cross loop keeps its invariant. -/
theorem cross_trip (k : Fin k0_t1_loop.trips) (f3 : Buf (Elt Ideal) ((c : Thread nD τ).loc cc0_scratch0))
    (h3 : KeptDone box valid X0 k.val f3) (j : Fin (k0_t2_loop k).trips) (acc : FVec Ideal S512x1 .f32) :
    crossInv c box valid k.val f3 j.val acc
      ⊢ wp frame (wpE (defs₀ (F := Ideal)) 𝒱₀ (c : Thread nD τ) none) Set.univ
          (k0_t2_body (F := Ideal) (Memref.whole cc0_stg0_0) (Memref.isWhole_whole _) (Memref.whole cc0_stg1_0) (Memref.isWhole_whole _) (Memref.whole cc0_stg2_0) (Memref.isWhole_whole _) (Memref.whole cc0_scratch0) (Memref.isWhole_whole _) 0#32 1#32 k (ldc1 k X1) (ldc2 k X1) (ldc3 k X1) (ldc4 k X1) j acc)
          (crossInv c box valid k.val f3 (j.val + 1)) := by
  have hj : j.val < k.val := (earlier_eq k) ▸ j.isLt
  have hb : ∀ x : Fin 512, (before512 k j x).val < 512 * k.val := fun x => by
    show 512 * j.val + x.val < 512 * k.val; have := x.isLt; omega
  unfold k0_t2_body
  simp only [Prog.lift, Prog.bind_op, Prog.bind_ret, Prog.pure_eq_ret]
  unfold crossInv
  iintro ⟨%hacc, H⟩
  iapply (wp_load 𝒱₀ (c : Thread nD τ) none Set.univ (m := Memref.whole cc0_scratch0) (Finset.subset_univ _)) $$ H; iintro H
  iapply (wp_load 𝒱₀ (c : Thread nD τ) none Set.univ (m := Memref.whole cc0_scratch0) (Finset.subset_univ _)) $$ H; iintro H
  iapply (wp_load 𝒱₀ (c : Thread nD τ) none Set.univ (m := Memref.whole cc0_scratch0) (Finset.subset_univ _)) $$ H; iintro H
  iapply (wp_load 𝒱₀ (c : Thread nD τ) none Set.univ (m := Memref.whole cc0_scratch0) (Finset.subset_univ _)) $$ H; iintro H
  rw [wp_ret]; imodintro
  isplitr; swap; · iexact H
  ipureintro
  refine crossed_succ k.val j.val (fun r => (col1 k X1 r).trans (hin.col1 _)) (fun r => (col2 k X1 r).trans (hin.col2 _))
    (fun r => (col3 k X1 r).trans (hin.col3 _)) (fun r => (col4 k X1 r).trans (hin.col4 _)) ?_ ?_ ?_ ?_ hacc
  · intro x; rw [pre1 k j f3 x, h3 _ _ (hb x), hin.row1]
  · intro x; rw [pre2 k j f3 x, h3 _ _ (hb x), hin.row2]
  · intro x; rw [pre3 k j f3 x, h3 _ _ (hb x), hin.row3]
  · intro x; rw [pre4 k j f3 x, h3 _ _ (hb x), hin.row4]

include hin in
/-- A trip's first part: it loads the block's columns, runs the cross loop, and hands on the block's areas, start column
    and rows. -/
theorem part1_spec (k : Fin k0_t1_loop.trips) (f3 : Buf (Elt Ideal) ((c : Thread nD τ).loc cc0_scratch0))
    (h3 : KeptDone box valid X0 k.val f3) (Q : _ → sProp 𝕄) :
    iprop(held3 c X0 X1 f3 ∗ ∀ supp : FVec Ideal S512x1 .f32, ⌜Crossed box valid k.val k.val supp⌝ -∗ held3 c X0 X1 f3 -∗
        Q ⟨Scalar.muli (Scf.iv 0#32 1#32 k) 512#32, k0_pay6 (ldc1 k X1), k0_pay7 (ldc2 k X1), k0_pay8 (ldc3 k X1), k0_pay9 (ldc4 k X1),
          k0_pay10 (ldc1 k X1) (ldc2 k X1) (ldc3 k X1) (ldc4 k X1), k0_pay14 (ldc5 k X1) supp,
          k0_pay15 (ldr1 k X0), k0_pay16 (ldr2 k X0), k0_pay17 (ldr3 k X0), k0_pay18 (ldr4 k X0), k0_pay19 (ldr1 k X0) (ldr3 k X0)⟩)
      ⊢ wp frame (wpE (defs₀ (F := Ideal)) 𝒱₀ (c : Thread nD τ) none) Set.univ
          (k0_part1 (F := Ideal) (Memref.whole cc0_stg0_0) (Memref.isWhole_whole _) (Memref.whole cc0_stg1_0) (Memref.isWhole_whole _) (Memref.whole cc0_stg2_0) (Memref.isWhole_whole _) (Memref.whole cc0_scratch0) (Memref.isWhole_whole _) 0#32 1#32 k) Q := by
  rw [k0_part1_eq_skeleton]; unfold k0_part1_skel
  simp only [Prog.lift, Prog.bind_op, Prog.bind_ret, Prog.pure_eq_ret]
  unfold held3
  iintro ⟨⟨H0, H1, H3⟩, Hk⟩
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  ihave HI : crossInv c box valid k.val f3 0 (k0_pay11 (F := Ideal)) $$ [H3]
  · unfold crossInv
    isplitr; · (ipureintro; exact crossed_zero k.val)
    iexact H3
  iapply (Scf.wp_for_bind frame (wpE (defs₀ (F := Ideal)) 𝒱₀ (c : Thread nD τ) none) Set.univ _ _ _ (k0_t2_ok k) _ _
    (crossInv c box valid k.val f3) (cross_trip c box valid X0 X1 hin k f3 h3)) $$ HI
  iintro %supp HI
  rw [show Scf.trips (k0_t2_loop k).lb (k0_t2_loop k).ub (k0_t2_loop k).st = k.val from earlier_eq k]
  unfold crossInv
  icases HI with ⟨%hsupp, H3⟩
  sl_for0 (rest_eq k)
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg0_0) (Finset.subset_univ _)) $$ H0; iintro H0
  rw [wp_ret]; imodintro
  iapply Hk
  · ipureintro; exact hsupp
  isplitl [H0]; · iexact H0
  isplitl [H1]; · iexact H1
  iexact H3

/-- What the block loop holds before trip `k`. -/
def blockInv (k : ℕ) (_ : Unit) : sProp 𝕄 :=
  iprop(∃ (f2 : Buf (Elt Ideal) ((c : Thread nD τ).loc cc0_stg2_0)) (f3 : Buf (Elt Ideal) ((c : Thread nD τ).loc cc0_scratch0)),
    ⌜RowDone box valid k f2⌝ ∗ ⌜KeptDone box valid X0 k f3⌝ ∗ (((c : Thread nD τ).loc cc0_stg0_0) ↦{fullShare} X0)
    ∗ (((c : Thread nD τ).loc cc0_stg1_0) ↦{fullShare} X1) ∗ (((c : Thread nD τ).loc cc0_stg2_0) ↦{fullShare} f2)
    ∗ (((c : Thread nD τ).loc cc0_scratch0) ↦{fullShare} f3))

include hin in
/-- One trip of the block loop keeps the invariant. -/
theorem block_trip (k : Fin k0_t1_loop.trips) (u : Unit) :
    blockInv c box valid X0 X1 k.val u
      ⊢ wp frame (wpE (defs₀ (F := Ideal)) 𝒱₀ (c : Thread nD τ) none) Set.univ
          (k0_t1_body (F := Ideal) (Memref.whole cc0_stg0_0) (Memref.isWhole_whole _) (Memref.whole cc0_stg1_0) (Memref.isWhole_whole _) (Memref.whole cc0_stg2_0) (Memref.isWhole_whole _) (Memref.whole cc0_scratch0) (Memref.isWhole_whole _) k u)
          (blockInv c box valid X0 X1 (k.val + 1)) := by
  unfold k0_t1_body blockInv
  iintro ⟨%f2, %f3, %h2, %h3, H0, H1, H2, H3⟩
  rw [wp_bind]
  iapply (part1_spec c box valid X0 X1 hin k f3 h3)
  isplitl [H0 H1 H3]
  · unfold held3
    isplitl [H0]; · iexact H0
    isplitl [H1]; · iexact H1
    iexact H3
  iintro %supp %hsupp HR
  unfold held3
  icases HR with ⟨H0, H1, H3⟩
  rw [k0_part2_eq_skeleton]; unfold k0_part2_skel
  simp only [Prog.lift, Prog.bind_op, Prog.bind_ret, Prog.pure_eq_ret]
  have hmask := mask_holds (box := box) k.val (fun r => (col1 k X1 r).trans (hin.col1 _)) (fun r => (col2 k X1 r).trans (hin.col2 _))
    (fun r => (col3 k X1 r).trans (hin.col3 _)) (fun r => (col4 k X1 r).trans (hin.col4 _))
    (fun r => (lane1 k X0 r).trans (hin.row1 _)) (fun r => (lane2 k X0 r).trans (hin.row2 _))
    (fun r => (lane3 k X0 r).trans (hin.row3 _)) (fun r => (lane4 k X0 r).trans (hin.row4 _))
  have hstart := start_holds (box := box) (valid := valid) k.val (val := ldc5 k X1) (fun r => (col5 k X1 r).trans (hin.flag _)) hsupp
  have hcall := settles_le c k _ _ hmask hstart (block_rule k.val) Set.univ 514 0 rfl _ _ 1#1 hstart
    (fun r hr => absurd hr (Nat.not_lt_zero _)) (fun h => absurd rfl h) (fun _ => Nat.zero_le _)
  iapply (wp_call_spec 𝒱₀ (c : Thread nD τ) none Set.univ (settles _) 514 (fun u hu => nomatch hu) hcall)
  rw [settles_apply]
  iintro %r %hr
  iapply (wp_load 𝒱₀ (c : Thread nD τ) none Set.univ (m := Memref.whole cc0_stg2_0) (Finset.subset_univ _)) $$ H2; iintro H2
  iapply (wp_store 𝒱₀ (c : Thread nD τ) none Set.univ (m := Memref.whole cc0_stg2_0)
    (r := Rect.unit (s := S1x5120) (k0_off18 k) S1x512.size (k0_off18_inb k)) (Mk := Finset.univ) (Finset.subset_univ _)) $$ H2; iintro H2
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_scratch0) (Finset.subset_univ _)) $$ H3; iintro H3
  iapply (wp_store 𝒱₀ (c : Thread nD τ) none Set.univ (m := Memref.whole cc0_scratch0)
    (r := Rect.unit (s := S8x5120) (k0_off19 k) S8x512.size (k0_off19_inb k)) (Mk := Finset.univ) (Finset.subset_univ _)) $$ H3; iintro H3
  rw [wp_ret]; imodintro
  iexists _; iexists _
  isplitr; · (ipureintro; exact row_done k h2 hr)
  isplitr; · (ipureintro; exact kept_done k (fun d x => lanes k X0 d x) h3 hr)
  isplitl [H0]; · iexact H0
  isplitl [H1]; · iexact H1
  isplitl [H2]; · iexact H2
  iexact H3

/-- The flag row the body leaves. -/
def flags : cc0_stg2_0.ty.Contents (Elt Ideal) := fun i => ind (kept valid (ovl box) (i 1).val)

include hin in
/-- The whole body: from the operands and any contents of the flag row and the scratch, to the rule's flags. -/
theorem body_spec (f2 : Buf (Elt Ideal) ((c : Thread nD τ).loc cc0_stg2_0)) (f3 : Buf (Elt Ideal) ((c : Thread nD τ).loc cc0_scratch0))
    (Q : PUnit → sProp 𝕄) :
    iprop((((c : Thread nD τ).loc cc0_stg0_0) ↦{fullShare} X0) ∗ (((c : Thread nD τ).loc cc0_stg1_0) ↦{fullShare} X1)
        ∗ (((c : Thread nD τ).loc cc0_stg2_0) ↦{fullShare} f2) ∗ (((c : Thread nD τ).loc cc0_scratch0) ↦{fullShare} f3)
        ∗ (∀ g3 : Buf (Elt Ideal) ((c : Thread nD τ).loc cc0_scratch0),
            (((c : Thread nD τ).loc cc0_stg0_0) ↦{fullShare} X0) -∗ (((c : Thread nD τ).loc cc0_stg1_0) ↦{fullShare} X1)
            -∗ (((c : Thread nD τ).loc cc0_stg2_0) ↦{fullShare} (flags box valid : Buf (Elt Ideal) ((c : Thread nD τ).loc cc0_stg2_0)))
            -∗ (((c : Thread nD τ).loc cc0_scratch0) ↦{fullShare} g3) -∗ Q ⟨⟩))
      ⊢ wp frame (wpE (defs₀ (F := Ideal)) 𝒱₀ (c : Thread nD τ) none) Set.univ
          (cc0__nms_body (F := Ideal) (Memref.whole cc0_stg0_0) (Memref.isWhole_whole _) (Memref.whole cc0_stg1_0) (Memref.isWhole_whole _) (Memref.whole cc0_stg2_0) (Memref.isWhole_whole _) (Memref.whole cc0_scratch0) (Memref.isWhole_whole _)) Q := by
  rw [cc0__nms_body_eq_skeleton]; unfold cc0__nms_body_skel
  iintro ⟨H0, H1, H2, H3, Hk⟩
  ihave HI : blockInv c box valid X0 X1 0 ⟨⟩ $$ [H0 H1 H2 H3]
  · unfold blockInv
    iexists f2; iexists f3
    isplitr; · (ipureintro; intro x hx; exact absurd hx (by omega))
    isplitr; · (ipureintro; intro d x hx; exact absurd hx (by omega))
    isplitl [H0]; · iexact H0
    isplitl [H1]; · iexact H1
    isplitl [H2]; · iexact H2
    iexact H3
  iapply (Scf.wp_for_bind frame (wpE (defs₀ (F := Ideal)) 𝒱₀ (c : Thread nD τ) none) Set.univ _ _ _ k0_t1_ok _ _
    (blockInv c box valid X0 X1) (block_trip c box valid X0 X1 hin)) $$ HI
  iintro %u HI
  rw [show Scf.trips k0_t1_loop.lb k0_t1_loop.ub k0_t1_loop.st = 10 from blocks_eq]
  unfold blockInv
  icases HI with ⟨%g2, %g3, %h2, %h3, H0, H1, H2, H3⟩
  have hrow : g2 = flags box valid := by
    funext i
    obtain ⟨a, b, rfl⟩ : ∃ (a : Fin 1) (b : Fin 5120), i = ix2 a b := ⟨i 0, i 1, funext fun x => by fin_cases x <;> rfl⟩
    have ha : a = 0 := Subsingleton.elim _ _
    subst ha
    exact h2 b (by have := b.isLt; omega)
  subst hrow
  simp only [Prog.pure_eq_ret]
  rw [wp_ret]; imodintro
  iapply Hk $$ H0 H1 H2 H3

end

end Cert.Proof

end
-- ==== Proof.Sorted.lean ====
/-
  What both programs compute on the host, as functions of the two arguments: the boxes and the scores by descending
  score (`sortedBoxes`, `sortedScores`), which of them count (`validBits`), and from a bit per box the returned rows
  (`tail`): the hundred best scores among the kept, with their boxes. The numbered boxes and the numbered validity
  (`box`, `valid`) extend the first two by zero boxes that do not count.
-/
module

public import proofs.«01_k».proof.Proof.Gen.KernelIdeal
public import proofs.«01_k».proof.Proof.Overlap
public import Idealize.ShloMosaic.Lib.Pointwise

@[expose] public section

set_option maxRecDepth 16384

noncomputable section

namespace Cert.Proof

open Cert.KernelIdeal Cert.KernelIdeal.Gen
open Idealize.ShloMosaic
open Idealize.ShloMosaic.TcCoe Idealize.ShloMosaic.Tactic

/-- The boxes: the first argument. -/
abbrev Boxes := (⟨S5000x4, .f32⟩ : BufTy).Contents (Elt Ideal)
/-- The scores: the second argument. -/
abbrev Scores := (⟨S5000, .f32⟩ : BufTy).Contents (Elt Ideal)
/-- A bit per box. -/
abbrev Bits5000 := (⟨S5000, .i1⟩ : BufTy).Contents (Elt Ideal)
/-- An index word per box. -/
abbrev Words := (⟨S5000, .i32⟩ : BufTy).Contents (Elt Ideal)
/-- The returned rows. -/
abbrev Rows := (⟨S100x5, .f32⟩ : BufTy).Contents (Elt Ideal)

/-- The positions of the scores in descending order. -/
def order (x : Scores) : Words :=
  (Host.sort2 S5000 0 comparator_f32_i32_d0 (Host.negf (F := Ideal) (φ := .f32) x) (iotaInDim S5000 32 0)).2

/-- Negative positions count from the end. -/
def wrapped (i : Words) : Words :=
  select (cmpi .slt i (broadcastInDim S5000 ![] bcast_S_S5000 (constantI S_ 32 0#32)))
    (addi i (broadcastInDim S5000 ![] bcast_S_S5000 (constantI S_ 32 5000#32))) i

/-- The boxes by descending score. -/
def sortedBoxes (b : Boxes) (x : Scores) : Boxes :=
  Host.gather gather_S5000x4_S5000x1_S5000x4_1_0_n_n_0_1_14 b
    (broadcastInDim S5000x1 ![0] bcast_S5000_S5000x1_0 (wrapped (order x)))

/-- The scores in descending order. -/
def sortedScores (x : Scores) : Scores :=
  Host.gather gather_S5000_S5000x1_S5000_n_0_n_n_0_1_1 x
    (broadcastInDim S5000x1 ![0] bcast_S5000_S5000x1_0 (wrapped (order x)))

/-- Which scores exceed the score threshold. -/
def validBits (s : Scores) : Bits5000 :=
  cmpf (F := Ideal) (φ := .f32) .ogt s (broadcastInDim S5000 ![] bcast_S_S5000 (constant S_ .f32 0x3D4CCCCD#32))

/-- The scores with those of the boxes not kept at minus infinity. -/
def maskedScores (s : Scores) (keep : Bits5000) : Scores :=
  select keep s (broadcastInDim S5000 ![] bcast_S_S5000 (constant (F := Ideal) S_ .f32 0xFF800000#32))

/-- The hundred best of the masked scores, -/
def topScores (m : Scores) : (⟨S100, .f32⟩ : BufTy).Contents (Elt Ideal) :=
  (Host.topK S100 0 (FloatOps.cmpfTotal (F := Ideal) (φ := .f32) .gt) m sliceFits_S5000_S100).1

/-- and where they lie. -/
def topPlaces (m : Scores) : (⟨S100, .i32⟩ : BufTy).Contents (Elt Ideal) :=
  (Host.topK S100 0 (FloatOps.cmpfTotal (F := Ideal) (φ := .f32) .gt) m sliceFits_S5000_S100).2

/-- Negative places count from the end. -/
def wrapped100 (i : (⟨S100, .i32⟩ : BufTy).Contents (Elt Ideal)) : (⟨S100, .i32⟩ : BufTy).Contents (Elt Ideal) :=
  select (cmpi .slt i (broadcastInDim S100 ![] bcast_S_S100 (constantI S_ 32 0#32)))
    (addi i (broadcastInDim S100 ![] bcast_S_S100 (constantI S_ 32 5000#32))) i

/-- The boxes at the best places, -/
def topBoxes (b : Boxes) (m : Scores) : (⟨S100x4, .f32⟩ : BufTy).Contents (Elt Ideal) :=
  Host.gather gather_S5000x4_S100x1_S100x4_1_0_n_n_0_1_14 b
    (broadcastInDim S100x1 ![0] bcast_S100_S100x1_0 (wrapped100 (topPlaces m)))

/-- the best scores as a column, -/
def topColumn (m : Scores) : (⟨S100x1, .f32⟩ : BufTy).Contents (Elt Ideal) :=
  broadcastInDim S100x1 ![0] bcast_S100_S100x1_0 (topScores m)

/-- and one beside the other. -/
def beside (p : (⟨S100x4, .f32⟩ : BufTy).Contents (Elt Ideal)) (q : (⟨S100x1, .f32⟩ : BufTy).Contents (Elt Ideal)) : Rows :=
  concatenate S100x5 1 [⟨S100x4, p⟩, ⟨S100x1, q⟩] concatenates_S100x4_S100x1_S100x5_d1

/-- The returned rows: the boxes at the best places beside the best scores. -/
def tail (b : Boxes) (s : Scores) (keep : Bits5000) : Rows :=
  beside (topBoxes b (maskedScores s keep)) (topColumn (maskedScores s keep))

/-- Box `n` of an array, a zero box past its end. -/
def box (b : Boxes) (n : ℕ) (d : Fin 4) : EReal := if h : n < 5000 then b (ix2 ⟨n, h⟩ d) else 0

/-- Whether box `n` counts: its bit, and none past the end. -/
def valid (v : Bits5000) (n : ℕ) : Prop := ∃ h : n < 5000, v (ix1 ⟨n, h⟩) = 1#1

theorem box_lt (b : Boxes) {n : ℕ} (h : n < 5000) (d : Fin 4) : box b n d = b (ix2 ⟨n, h⟩ d) := dif_pos h

theorem box_ge (b : Boxes) {n : ℕ} (h : ¬ n < 5000) (d : Fin 4) : box b n d = 0 := dif_neg h

end Cert.Proof

end
-- ==== Proof.KernelHost.lean ====
/-
  The kernel program's host operations. Before the launch they leave the sorted boxes and scores and two padded arrays:
  the boxes by rows of coordinates (`rows_at`), and the boxes by columns beside a column of validity flags (`cols_at`).
  These are the block kernel's inputs (`inputs`). After the launch they compute `tail` at the bits "flag above one half"
  (`result_eq`).
-/
module

public import proofs.«01_k».proof.Proof.Sorted
public import proofs.«01_k».proof.Proof.Trip
public import proofs.«01_k».proof.Proof.Gen.KernelIdeal.Launch
public import Idealize.ShloMosaic.Lib.StableHlo.ReadAt
public import Idealize.ShloMosaic.Lib.Routing.OpsOne

@[expose] public section

set_option maxRecDepth 16384

noncomputable section

namespace Cert.Proof

open Cert.KernelIdeal Cert.KernelIdeal.Gen
open Idealize.ShloMosaic Idealize.SL.Sem
open Idealize.ShloMosaic.TcCoe Idealize.ShloMosaic.Tactic Idealize.ShloMosaic.Routing

variable (V : Valuation τ sig (Elt Ideal))

/-- The boxes after the first line of operations, from the arguments. -/
abbrev kBoxes : Boxes := sortedBoxes (V (Proc.devRef .tc main_arg0)) (V (Proc.devRef .tc main_arg1))
/-- The scores. -/
abbrev kScores : Scores := sortedScores (V (Proc.devRef .tc main_arg1))

theorem read_scores : StableHlo.after hostOps0 V (Proc.devRef .tc main_call0_v15) = kScores V := by
  after_reads_simp
  simp -implicitDefEqProofs only [StableHlo.TRef.toBuf, StableHlo.TRef.ofBuf, cast_cast, cast_eq]
  rfl

theorem read_boxes : StableHlo.after hostOps0 V (Proc.devRef .tc main_call0_v8) = kBoxes V := by
  after_reads_simp
  simp -implicitDefEqProofs only [StableHlo.TRef.toBuf, StableHlo.TRef.ofBuf, cast_cast, cast_eq]
  rfl

/-! ### Two index words side by side -/

/-- Two words side by side in a vector. -/
def pair (a b : BitVec 32) : IVec S2 32 :=
  concatenate S2 0
    [⟨S1, broadcastInDim S1 ![] bcast_S_S1 (constantI S_ 32 a)⟩, ⟨S1, broadcastInDim S1 ![] bcast_S_S1 (constantI S_ 32 b)⟩]
    concatenates_S1_S1_S2_d0

theorem pair_0 (a b : BitVec 32) : pair a b (ValueIdx.ix1 (0 : Fin 2)) = a := by unfold pair; rfl
theorem pair_1 (a b : BitVec 32) : pair a b (ValueIdx.ix1 (1 : Fin 2)) = b := by unfold pair; rfl

/-! ### A block of updates written into a matrix -/

/-- The two spellings of an index of a matrix, -/
theorem spell2 {n0 n1 : ℕ} (a : Fin n0) (b : Fin n1) : ix2 a b = ValueIdx.ix2 a b := by
  rw [ValueIdx.eq_ix2 (ix2 a b)]; rfl

/-- and of a vector. -/
theorem spell1 {n0 : ℕ} (a : Fin n0) : ix1 a = ValueIdx.ix1 a := by
  rw [ValueIdx.eq_ix1 (ix1 a)]; rfl

/-- Update `(a, b)` of a block written into a matrix at a pair of index words lands at `(r, c)` exactly when the words,
    read signed, plus `a` and `b` are `r` and `c`. -/
theorem block_lands {R C A B w : ℕ} (d : ScatterDims (shape2 R C) (shape1 2) (shape2 A B))
    (huw : d.updateWindowDims = [0, 1]) (hiw : d.insertedWindowDims = [])
    (hsd : d.scatterDimsToOperandDims = [0, 1]) (hivd : d.indexVectorDim = 0) (idx : IVec (shape1 2) w)
    (a : Fin A) (b : Fin B) (r : Fin R) (c : Fin C) :
    d.resultIdx? (ValueIdx.ix2 a b) idx = some (ValueIdx.ix2 r c)
      ↔ (idx (ValueIdx.ix1 (0 : Fin 2))).toInt + (a.val : ℤ) = r.val ∧ (idx (ValueIdx.ix1 (1 : Fin 2))).toInt + (b.val : ℤ) = c.val := by
  have hk : d.sKept = [0, 1] := by
    show (shape2 R C).kept d.insertedWindowDims = _
    rw [hiw]; rfl
  have hwin : ∀ q : Fin 2, d.window (ValueIdx.ix2 a b) q = ((ValueIdx.ix2 a b : (shape2 A B).Idx) q).val := by
    intro q
    unfold ScatterDims.window
    rw [dif_pos (by rw [hk]; fin_cases q <;> simp)]
    have e : d.updateWindowDims[d.sKept.idxOf q]'(by
        rw [d.window_length]; exact List.idxOf_lt_length_iff.2 (by rw [hk]; fin_cases q <;> simp)) = q := by
      simp only [huw, hk]
      fin_cases q <;> rfl
    rw [e]
  rw [Routing.resultIdx?_ix2, Routing.start_pair d hsd hivd, Routing.start_pair d hsd hivd, hwin, hwin]
  show _ + ((a.val : ℕ) : ℤ) = _ ∧ _ + ((b.val : ℕ) : ℤ) = _ ↔ _
  exact Iff.rfl

/-- A block written at the first row and column, inside it: the update. -/
theorem block_in {α : Type} {R C A B w : ℕ} (d : ScatterDims (shape2 R C) (shape1 2) (shape2 A B))
    (huw : d.updateWindowDims = [0, 1]) (hiw : d.insertedWindowDims = [])
    (hsd : d.scatterDimsToOperandDims = [0, 1]) (hivd : d.indexVectorDim = 0) (idx : IVec (shape1 2) w)
    (h0 : (idx (ValueIdx.ix1 (0 : Fin 2))).toInt = 0) (h1 : (idx (ValueIdx.ix1 (1 : Fin 2))).toInt = 0)
    (x : (shape2 R C).Idx → α) (u : (shape2 A B).Idx → α) (a : Fin A) (b : Fin B) (r : Fin R) (c : Fin C)
    (hr : a.val = r.val) (hc : b.val = c.val) :
    Host.scatter d (fun _ y => y) x idx u (ValueIdx.ix2 r c) = u (ValueIdx.ix2 a b) := by
  refine Routing.scatter_set_hit d x idx u _ _ (fun k hk => ?_) (ValueIdx.ix2 a b) ((block_lands d huw hiw hsd hivd idx a b r c).2 ?_)
  · rw [ValueIdx.eq_ix2 k] at hk ⊢
    have := (block_lands d huw hiw hsd hivd idx _ _ r c).1 hk
    rw [h0, h1] at this
    have e0 : k 0 = a := Fin.ext (by have := this.1; omega)
    have e1 : k 1 = b := Fin.ext (by have := this.2; omega)
    rw [e0, e1]; rfl
  · rw [h0, h1]; omega

/-- Outside it: the operand. -/
theorem block_out {α : Type} {R C A B w : ℕ} (d : ScatterDims (shape2 R C) (shape1 2) (shape2 A B))
    (huw : d.updateWindowDims = [0, 1]) (hiw : d.insertedWindowDims = [])
    (hsd : d.scatterDimsToOperandDims = [0, 1]) (hivd : d.indexVectorDim = 0) (idx : IVec (shape1 2) w)
    (h0 : (idx (ValueIdx.ix1 (0 : Fin 2))).toInt = 0) (h1 : (idx (ValueIdx.ix1 (1 : Fin 2))).toInt = 0)
    (x : (shape2 R C).Idx → α) (u : (shape2 A B).Idx → α) (r : Fin R) (c : Fin C)
    (h : A ≤ r.val ∨ B ≤ c.val) :
    Host.scatter d (fun _ y => y) x idx u (ValueIdx.ix2 r c) = x (ValueIdx.ix2 r c) := by
  refine Routing.scatter_set_miss d x idx u _ fun k hk => ?_
  rw [ValueIdx.eq_ix2 k] at hk
  have := (block_lands d huw hiw hsd hivd idx _ _ r c).1 hk
  rw [h0, h1] at this
  have ha : (k 0).val < A := (k 0).isLt
  have hb : (k 1).val < B := (k 1).isLt
  omega

/-! ### The two padded arrays -/

/-- The boxes by rows of coordinates, padded with zeros. -/
def padRows (b : Boxes) : (⟨S8x5120, .f32⟩ : BufTy).Contents (Elt Ideal) :=
  Host.scatter scatter_S8x5120_S2_S4x5000_01_n_01_0 (fun _ y => y)
    (broadcastInDim S8x5120 ![] bcast_S_S8x5120 (constant (F := Ideal) S_ .f32 0x00000000#32)) (pair 0#32 0#32)
    (transpose S4x5000 [1, 0] b transposes_S5000x4_S4x5000_1_0)

/-- The boxes by columns of coordinates, padded with zeros, -/
def padCols (b : Boxes) : (⟨S5120x8, .f32⟩ : BufTy).Contents (Elt Ideal) :=
  Host.scatter scatter_S5120x8_S2_S5000x4_01_n_01_0 (fun _ y => y)
    (broadcastInDim S5120x8 ![] bcast_S_S5120x8 (constant (F := Ideal) S_ .f32 0x00000000#32)) (pair 0#32 0#32) b

/-- with the validity flags in column four. -/
def padFlags (b : Boxes) (v : Bits5000) : (⟨S5120x8, .f32⟩ : BufTy).Contents (Elt Ideal) :=
  Host.scatter scatter_S5120x8_S2_S5000_0_1_01_0 (fun _ y => y) (padCols b) (pair 0#32 4#32)
    (uitofp (F := Ideal) .f32 v)

/-! The six index words. -/

theorem word_21 : StableHlo.upto hostOps0 V 33 (Proc.devRef .tc main_call0_v21) = broadcastInDim S1 ![] bcast_S_S1 (constantI S_ 32 0#32) := by
  after_reads_simp
  simp -implicitDefEqProofs only [StableHlo.TRef.toBuf, StableHlo.TRef.ofBuf, cast_cast, cast_eq]

theorem word_22 : StableHlo.upto hostOps0 V 33 (Proc.devRef .tc main_call0_v22) = broadcastInDim S1 ![] bcast_S_S1 (constantI S_ 32 0#32) := by
  after_reads_simp
  simp -implicitDefEqProofs only [StableHlo.TRef.toBuf, StableHlo.TRef.ofBuf, cast_cast, cast_eq]

theorem word_26 : StableHlo.upto hostOps0 V 41 (Proc.devRef .tc main_call0_v26) = broadcastInDim S1 ![] bcast_S_S1 (constantI S_ 32 0#32) := by
  after_reads_simp
  simp -implicitDefEqProofs only [StableHlo.TRef.toBuf, StableHlo.TRef.ofBuf, cast_cast, cast_eq]

theorem word_27 : StableHlo.upto hostOps0 V 41 (Proc.devRef .tc main_call0_v27) = broadcastInDim S1 ![] bcast_S_S1 (constantI S_ 32 0#32) := by
  after_reads_simp
  simp -implicitDefEqProofs only [StableHlo.TRef.toBuf, StableHlo.TRef.ofBuf, cast_cast, cast_eq]

theorem word_30 : StableHlo.upto hostOps0 V 47 (Proc.devRef .tc main_call0_v30) = broadcastInDim S1 ![] bcast_S_S1 (constantI S_ 32 0#32) := by
  after_reads_simp
  simp -implicitDefEqProofs only [StableHlo.TRef.toBuf, StableHlo.TRef.ofBuf, cast_cast, cast_eq]

theorem word_31 : StableHlo.upto hostOps0 V 47 (Proc.devRef .tc main_call0_v31) = broadcastInDim S1 ![] bcast_S_S1 (constantI S_ 32 4#32) := by
  after_reads_simp
  simp -implicitDefEqProofs only [StableHlo.TRef.toBuf, StableHlo.TRef.ofBuf, cast_cast, cast_eq]

theorem read_rows : StableHlo.after hostOps0 V (Proc.devRef .tc main_call0_v24) = padRows (kBoxes V) := by
  after_reads_simp
  simp -implicitDefEqProofs only [StableHlo.TRef.toBuf, StableHlo.TRef.ofBuf, cast_cast, cast_eq]
  rw [word_21, word_22]
  rfl

theorem read_cols : StableHlo.after hostOps0 V (Proc.devRef .tc main_call0_v33)
    = padFlags (kBoxes V) (validBits (kScores V)) := by
  after_reads_simp
  simp -implicitDefEqProofs only [StableHlo.TRef.toBuf, StableHlo.TRef.ofBuf, cast_cast, cast_eq]
  rw [word_26, word_27, word_30, word_31]
  rfl

/-! ### Read at an index -/

theorem zeros_at {s : Shape} (h : S_.BroadcastsInDim s ![]) (i : s.Idx) :
    broadcastInDim s ![] h (constant (F := Ideal) S_ .f32 0x00000000#32) i = (0 : EReal) := by
  pointwise

/-- Row `d` of the padded rows at lane `r` is coordinate `d` of box `r`. -/
theorem rows_at (b : Boxes) (d : Fin 4) (r : Fin 5120) :
    padRows b (ix2 (⟨d.val, by omega⟩ : Fin 8) r) = box b r.val d := by
  unfold padRows
  rw [spell2]
  by_cases h : r.val < 5000
  · rw [box_lt b h]
    refine (block_in scatter_S8x5120_S2_S4x5000_01_n_01_0 rfl rfl rfl rfl _ (by rw [pair_0]; rfl) (by rw [pair_1]; rfl) _ _ d ⟨r.val, h⟩ _ _ rfl rfl).trans ?_
    rw [← spell2]
    pointwise
  · rw [box_ge b h]
    refine (block_out scatter_S8x5120_S2_S4x5000_01_n_01_0 rfl rfl rfl rfl _ (by rw [pair_0]; rfl) (by rw [pair_1]; rfl) _ _ _ _ (Or.inr (by omega))).trans ?_
    exact zeros_at _ _

/-- Column `d < 4` of the padded columns at row `r` is coordinate `d` of box `r`. -/
theorem cols_at (b : Boxes) (d : Fin 4) (r : Fin 5120) :
    padCols b (ix2 r (⟨d.val, by omega⟩ : Fin 8)) = box b r.val d := by
  unfold padCols
  rw [spell2]
  by_cases h : r.val < 5000
  · rw [box_lt b h, spell2]
    exact block_in scatter_S5120x8_S2_S5000x4_01_n_01_0 rfl rfl rfl rfl _ (by rw [pair_0]; rfl) (by rw [pair_1]; rfl) _ _ ⟨r.val, h⟩ d _ _ rfl rfl
  · rw [box_ge b h]
    refine (block_out scatter_S5120x8_S2_S5000x4_01_n_01_0 rfl rfl rfl rfl _ (by rw [pair_0]; rfl) (by rw [pair_1]; rfl) _ _ _ _ (Or.inl (by omega))).trans ?_
    exact zeros_at _ _

/-- Writing the flags leaves the coordinates. -/
theorem flags_coord (b : Boxes) (v : Bits5000) (d : Fin 4) (r : Fin 5120) :
    padFlags b v (ix2 r (⟨d.val, by omega⟩ : Fin 8)) = box b r.val d := by
  rw [← cols_at]
  unfold padFlags
  rw [Routing.scatter_column_signed _ (by decide) rfl rfl rfl, if_neg]
  rw [pair_1, pair_0]
  rintro ⟨h, -⟩
  have : ((4#32 : BitVec 32).toInt) = (d.val : ℤ) := h
  rw [show ((4#32 : BitVec 32).toInt) = 4 from rfl] at this
  omega

/-- Column four at row `r` flags whether box `r` counts. -/
theorem flags_valid (b : Boxes) (v : Bits5000) (r : Fin 5120) :
    padFlags b v (ix2 r (4 : Fin 8)) = ind (valid v r.val) := by
  unfold padFlags
  rw [Routing.scatter_column_signed _ (by decide) rfl rfl rfl, pair_1, pair_0]
  by_cases h : r.val < 5000
  · rw [if_pos ⟨rfl, Int.natCast_nonneg _, by show (r.val : ℤ) < 0 + 5000; omega⟩]
    rw [show (⟨((((ix2 r (4 : Fin 8)) 0).val : ℤ) - BitVec.toInt (0#32 : BitVec 32)).toNat % 5000, Nat.mod_lt _ (by decide)⟩ : Fin 5000)
        = ⟨r.val, h⟩ from Fin.ext (by show ((r.val : ℤ) - 0).toNat % 5000 = r.val; omega), ← spell1]
    rw [show valid v r.val ↔ v (ix1 ⟨r.val, h⟩) = 1#1 from ⟨fun ⟨_, q⟩ => q, fun q => ⟨h, q⟩⟩]
    show ((((v (ix1 ⟨r.val, h⟩)).toNat : ℝ)) : EReal) = _
    rcases (show v (ix1 ⟨r.val, h⟩) = 0#1 ∨ v (ix1 ⟨r.val, h⟩) = 1#1 from by generalize v (ix1 ⟨r.val, h⟩) = w; revert w; decide) with q | q
    · rw [q, ind_false (by decide)]; simp
    · rw [q, ind_true rfl]; simp
  · rw [if_neg fun q => by have := q.2.2; change (r.val : ℤ) < 0 + 5000 at this; omega,
      show ind (valid v r.val) = 0 from ind_false fun ⟨q, _⟩ => h q]
    unfold padCols
    rw [spell2]
    refine (block_out scatter_S5120x8_S2_S5000x4_01_n_01_0 rfl rfl rfl rfl _ (by rw [pair_0]; rfl) (by rw [pair_1]; rfl) _ _ _ _ (Or.inl (by omega))).trans ?_
    exact zeros_at _ _

/-- The two padded arrays are the block kernel's inputs. -/
theorem inputs (b : Boxes) (v : Bits5000) : Inputs (box b) (valid v) (padRows b) (padFlags b v) where
  row1 r := rows_at b 0 r
  row2 r := rows_at b 1 r
  row3 r := rows_at b 2 r
  row4 r := rows_at b 3 r
  col1 r := flags_coord b v 0 r
  col2 r := flags_coord b v 1 r
  col3 r := flags_coord b v 2 r
  col4 r := flags_coord b v 3 r
  flag r := flags_valid b v r

/-! ### After the launch -/

/-- Which flags of a row exceed one half. -/
def keepBits (k : (⟨S1x5120, .f32⟩ : BufTy).Contents (Elt Ideal)) : Bits5000 :=
  cmpf (F := Ideal) (φ := .f32) .ogt
    (shapeCast S5000 (extractStridedSlice S1x5000 ![0, 0] k slices_S1x5120_S1x5000_0_0) shapeCasts_S1x5000_S5000)
    (broadcastInDim S5000 ![] bcast_S_S5000 (constant S_ .f32 0x3F000000#32))

theorem read_topBoxes : StableHlo.upto hostOps1 V 21 (Proc.devRef .tc main_call0_v46)
    = topBoxes (V (Proc.devRef .tc main_call0_v8))
        (maskedScores (V (Proc.devRef .tc main_call0_v15)) (keepBits (V (Proc.devRef .tc main_call0_v34)))) := by
  after_reads_simp
  simp -implicitDefEqProofs only [StableHlo.TRef.toBuf, StableHlo.TRef.ofBuf, cast_cast, cast_eq]
  rfl

theorem read_topColumn : StableHlo.upto hostOps1 V 21 (Proc.devRef .tc main_call0_v47)
    = topColumn
        (maskedScores (V (Proc.devRef .tc main_call0_v15)) (keepBits (V (Proc.devRef .tc main_call0_v34)))) := by
  after_reads_simp
  simp -implicitDefEqProofs only [StableHlo.TRef.toBuf, StableHlo.TRef.ofBuf, cast_cast, cast_eq]
  rfl

/-- The result from the boxes, the scores and the flags. -/
theorem read_result : StableHlo.after hostOps1 V (Proc.devRef .tc main_v0)
    = tail (V (Proc.devRef .tc main_call0_v8)) (V (Proc.devRef .tc main_call0_v15))
        (keepBits (V (Proc.devRef .tc main_call0_v34))) := by
  after_reads_simp
  simp -implicitDefEqProofs only [StableHlo.TRef.toBuf, StableHlo.TRef.ofBuf, cast_cast, cast_eq]
  rw [read_topBoxes, read_topColumn]
  rfl

end Cert.Proof

end
-- ==== Proof.KernelRun.lean ====
/-
  The kernel's run. The host lines before the launch lay the sorted boxes out as the two operands, the single grid point
  runs the body on them, and the host lines after it read the flag row. So every run terminates with the result `tail` of
  the sorted boxes, the sorted scores and the greedy rule's flags, with both arguments and every semaphore as they were.
-/
module

public import proofs.«01_k».proof.Proof.Body
public import proofs.«01_k».proof.Proof.KernelHost
public import proofs.«01_k».proof.Proof.Gen.KernelIdeal.Launch
public import Idealize.ShloMosaic.Lib.StableHlo.RunHlo
public import Idealize.ShloMosaic.Lib.Pipeline.FrameSuffix
public import proofs.«01_k».proof.Proof.Gen.KernelIdeal.Points
public import Idealize.ShloMosaic.Lib.Pipeline.ValueKit.Geometry

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-! ### What the host lines write -/

/-- No line before the launch allocates. -/
theorem before_fresh : (hostOps0 : List (HloOp τ sig (Elt Ideal))).Forall fun op => op.fresh = ∅ :=
  StableHlo.forall_fresh_of_map rfl

/-- No line after the launch allocates. -/
theorem after_fresh : (hostOps1 : List (HloOp τ sig (Elt Ideal))).Forall fun op => op.fresh = ∅ :=
  StableHlo.forall_fresh_of_map rfl

/-- The buffers the lines before the launch write, in order. -/
abbrev beforeRefs : List (Ref sig .tc) :=
  [main_call0_v0, main_call0_call0_v0, main_call0_call0_v1_0, main_call0_v1, main_call0_c, main_call0_v2, main_call0_v3,
    main_call0_c_0, main_call0_v4, main_call0_v5, main_call0_v6, main_call0_v7, main_call0_v8, main_call0_c_1,
    main_call0_v9, main_call0_v10, main_call0_c_2, main_call0_v11, main_call0_v12, main_call0_v13, main_call0_v14,
    main_call0_v15, main_call0_cst, main_call0_v16, main_call0_v17, main_call0_v18, main_call0_cst_3, main_call0_v19,
    main_call0_v20, main_call0_c_4, main_call0_v21, main_call0_c_5, main_call0_v22, main_call0_v23, main_call0_v24,
    main_call0_cst_6, main_call0_v25, main_call0_c_7, main_call0_v26, main_call0_c_8, main_call0_v27, main_call0_v28,
    main_call0_v29, main_call0_c_9, main_call0_v30, main_call0_c_10, main_call0_v31, main_call0_v32, main_call0_v33]

/-- The lines before the launch write those buffers and no other. -/
theorem before_writes : (hostOps0 : List (HloOp τ sig (Elt Ideal))).Forall
    fun op => op.writes ⊆ (beforeRefs.map (Proc.devRef (τ := τ) .tc)).toFinset :=
  StableHlo.forall_writes_sub_of_map rfl

/-- The buffers the lines after the launch write, in order. -/
abbrev afterRefs : List (Ref sig .tc) :=
  [main_call0_v35, main_call0_v36, main_call0_cst_11, main_call0_v37, main_call0_v38, main_call0_cst_12, main_call0_call1_v0,
    main_call0_call1_v1, main_call0_v39, main_call0_values, main_call0_indices, main_call0_c_13, main_call0_v40, main_call0_v41,
    main_call0_c_14, main_call0_v42, main_call0_v43, main_call0_v44, main_call0_v45, main_call0_v46, main_call0_v47, main_v0]

/-- The lines after the launch write those buffers and no other. -/
theorem after_writes : (hostOps1 : List (HloOp τ sig (Elt Ideal))).Forall
    fun op => op.writes ⊆ (afterRefs.map (Proc.devRef (τ := τ) .tc)).toFinset :=
  StableHlo.forall_writes_sub_of_map rfl

/-! ### The launch's data -/

section Launch

variable (V₀ : Dev nD → Valuation τ sig (Elt Ideal)) (b : Dev nD → Boxes) (v : Dev nD → Bits5000)

/-- The launch's data: the arrays as the host lines left them (`V₀`), each operand staged as it stands, and the flag row at
    the rule's flags after the one point. -/
def dats (_ : Fin 1) (c : Dev nD) : Dat τ (Elt Ideal) Unit ℕ (UR sig nD τ) ℕ (cfg0 (F := Ideal)) c where
  A := fun w => V₀ c (Proc.devRef .tc (Pipeline.arrRef spec0 w))
  after := fun
    | ⟨0, _⟩, _ => padRows (b c)
    | ⟨1, _⟩, _ => padFlags (b c) (v c)
    | ⟨2, _⟩, _ => flags (box (b c)) (Cert.Proof.valid (v c))
    | ⟨_ + 3, h⟩, _ => absurd h (Nat.not_lt.2 (Nat.le_add_left _ _))
  Φ := fun _ => Pipeline.ΦA spec0 c
  q := fun _ => fullShare
  owed := fun _ => 0

theorem after_0 (c : Dev nD) (t : Fin (cfg0 (F := Ideal)).N) : (dats V₀ b v 0 c).after 0 t = padRows (b c) := by
  dsimp only [dats]
theorem after_1 (c : Dev nD) (t : Fin (cfg0 (F := Ideal)).N) : (dats V₀ b v 0 c).after 1 t = padFlags (b c) (v c) := by
  dsimp only [dats]
theorem after_2 (c : Dev nD) (t : Fin (cfg0 (F := Ideal)).N) :
    (dats V₀ b v 0 c).after 2 t = flags (box (b c)) (Cert.Proof.valid (v c)) := by
  dsimp only [dats]

variable (hrows : ∀ c, V₀ c (Proc.devRef .tc main_call0_v24) = padRows (b c))
variable (hcols : ∀ c, V₀ c (Proc.devRef .tc main_call0_v33) = padFlags (b c) (v c))

include hrows in
/-- The first operand is staged whole. -/
theorem before_0 (c : Dev nD) (d) : (dats V₀ b v 0 c).before (0 : Fin 3) t0_0 d = padRows (b c) := by
  rw [← hrows c, Pipeline.Dat.before_fetched _ _ _ (fetch0_0 _)]
  funext j
  unfold Dat.fetched Window.fill Dat.blockOf
  rw [dif_pos (by exact (Window.moved_iff _ _ j).mpr fun a => (j a).isLt)]
  refine congrArg (V₀ c (Proc.devRef .tc (Pipeline.arrRef spec0 0))) (funext fun a => Fin.ext ?_)
  exact Pipeline.Window.rect_emb_val_of_index_zero win0_0 t0_0 a rfl _

include hcols in
/-- The second operand is staged whole. -/
theorem before_1 (c : Dev nD) (d) : (dats V₀ b v 0 c).before (1 : Fin 3) t0_0 d = padFlags (b c) (v c) := by
  rw [← hcols c, Pipeline.Dat.before_fetched _ _ _ (fetch0_1 _)]
  funext j
  unfold Dat.fetched Window.fill Dat.blockOf
  rw [dif_pos (by exact (Window.moved_iff _ _ j).mpr fun a => (j a).isLt)]
  refine congrArg (V₀ c (Proc.devRef .tc (Pipeline.arrRef spec0 1))) (funext fun a => Fin.ext ?_)
  exact Pipeline.Window.rect_emb_val_of_index_zero win0_1 t0_0 a rfl _

/-- A whole buffer is owned at contents `X` exactly when its location holds `X`. -/
theorem owns_whole (c : Dev nD) (r : Ref sig .tc) (X : r.ty.Contents (Elt Ideal)) :
    (owns (Ix := Unit) (Name := ℕ) (U := UR sig nD τ) (Lvl := ℕ) (c : Thread nD τ) (Memref.whole r) fullShare X : sProp 𝕄)
      = iprop(∃ f : Buf (Elt Ideal) ((c : Thread nD τ).loc r), ⌜f = X⌝ ∗ (((c : Thread nD τ).loc r) ↦{fullShare} f)) := by
  unfold owns; simp only [Memref.view_whole, View.read_whole, View.set_whole]

/-- The launch's invariant is the scratch at some contents and the generator's register. -/
theorem invariant_eq (c : Dev nD) (t : Fin ((cfg0 (F := Ideal)).N + 1)) : (dats V₀ b v 0 c).Φ t
      = iprop((∃ f : Buf (Elt Ideal) ((c : Thread nD τ).loc cc0_scratch0), ((c : Thread nD τ).loc cc0_scratch0) ↦{fullShare} f)
          ∗ ∃ r, prngReg c r) := by
  show Pipeline.ΦA spec0 c = _
  unfold Pipeline.ΦA
  rw [scopedRest0_eq]

/-- The invariant gives the scratch. -/
theorem scratch_out (c : Dev nD) (t : Fin ((cfg0 (F := Ideal)).N + 1)) : (dats V₀ b v 0 c).Φ t
      ⊢ iprop((∃ f : Buf (Elt Ideal) ((c : Thread nD τ).loc cc0_scratch0), ((c : Thread nD τ).loc cc0_scratch0) ↦{fullShare} f)
          ∗ ∃ r, prngReg c r) := by rw [invariant_eq]

/-- The scratch gives the invariant back. -/
theorem scratch_in (c : Dev nD) (t : Fin ((cfg0 (F := Ideal)).N + 1)) :
    iprop((∃ f : Buf (Elt Ideal) ((c : Thread nD τ).loc cc0_scratch0), ((c : Thread nD τ).loc cc0_scratch0) ↦{fullShare} f)
          ∗ ∃ r, prngReg c r) ⊢ (dats V₀ b v 0 c).Φ t := by rw [invariant_eq]

include hrows hcols in
/-- The body at the one point: from the staged operands to the rule's flags. -/
theorem body_point (c : Dev nD) : BodyObligation (dats V₀ b v 0 c) (defs₀ (F := Ideal)) 𝒱₀ () Set.univ := fun t => by
  rw [fin_N0 t]
  rw [bigSep_W0, bigSep_W0]
  sl_whnfR [defs₀, Defs.onTc]
  simp only [show stage0_0 0 = Memref.whole cc0_stg0_0 from rfl, show stage0_1 0 = Memref.whole cc0_stg1_0 from rfl,
    show stage0_2 0 = Memref.whole cc0_stg2_0 from rfl]
  simp only [owns_whole]
  iintro ⟨HΦ, Ho, ⟨%d0, %f0, %h0, H0⟩, ⟨%d1, %f1, %h1, H1⟩, ⟨%d2, %f2, %h2, H2⟩⟩
  have e0 : f0 = padRows (b c) := h0.trans (before_0 V₀ b v hrows c d0)
  have e1 : f1 = padFlags (b c) (v c) := h1.trans (before_1 V₀ b v hcols c d1)
  have hin : Inputs (box (b c)) (Cert.Proof.valid (v c)) f0 f1 :=
    e0.symm ▸ e1.symm ▸ inputs (b c) (v c)
  ihave HΦ' := (scratch_out V₀ b v c t0_0.castSucc) $$ HΦ
  icases HΦ' with ⟨⟨%f3, H3⟩, HP⟩
  iapply (body_spec c (box (b c)) (Cert.Proof.valid (v c)) f0 f1 hin f2 f3)
  isplitl [H0]; · iexact H0
  isplitl [H1]; · iexact H1
  isplitl [H2]; · iexact H2
  isplitl [H3]; · iexact H3
  iintro %g3 H0 H1 H2 H3
  isplitl [H3 HP]
  · iapply (scratch_in V₀ b v c t0_0.succ)
    isplitl [H3]
    · iexists g3; iexact H3
    iexact HP
  isplitl [Ho]; · iexact Ho
  isplitl [H0]
  · iexists _; isplitr; · (ipureintro; exact e0.trans (after_0 V₀ b v c _).symm)
    iexact H0
  isplitl [H1]
  · iexists _; isplitr; · (ipureintro; exact e1.trans (after_1 V₀ b v c _).symm)
    iexact H1
  iexists _; isplitr; · (ipureintro; exact (after_2 V₀ b v c _).symm)
  iexact H2

/-- Every array is held whole. -/
theorem share_whole (c : Dev nD) (w : Fin (cfg0 (F := Ideal)).W) : (dats V₀ b v 0 c).share w = fullShare := by
  unfold Dat.share; split <;> rfl

/-- After the run the flag row's array holds the rule's flags. -/
theorem flags_array (c : Dev nD) :
    (dats V₀ b v 0 c).arrAt 2 (cfg0 (F := Ideal)).N = flags (box (b c)) (Cert.Proof.valid (v c)) := by
  refine (dats V₀ b v 0 c).arrAt_eq_of_after_last 2 t0_0 (by decide +kernel) _ fun j => ?_
  exact congrFun (after_2 V₀ b v c t0_0) _

/-- The lines after the launch touch no scoped buffer. -/
theorem tail_sub : ∀ ops ∈ ([hostOps1] : List (List (HloOp τ sig (Elt Ideal)))), ∀ op ∈ ops,
    op.bufs ⊆ Pipeline.tailRefs sig Pipeline.Prefetch.none spec0 := by
  rw [Pipeline.tailRefs_none spec0 (launch0 (F := Ideal)).win.arr_unscoped]
  intro ops hops op hop
  rw [List.mem_singleton] at hops
  subst hops
  exact Pipeline.sub_ucRefs op ((List.forall_iff_forall_mem.mp hostOps1_sub) op hop)

/-- Nor do they allocate. -/
theorem tail_fresh : ∀ ops ∈ ([hostOps1] : List (List (HloOp τ sig (Elt Ideal)))), ∀ op ∈ ops, op.fresh = ∅ := by
  intro ops hops op hop
  rw [List.mem_singleton] at hops
  subst hops
  exact (List.forall_iff_forall_mem.mp after_fresh) op hop

/-- Nor do they write an array of the launch. -/
theorem tail_keeps : ∀ ops ∈ ([hostOps1] : List (List (HloOp τ sig (Elt Ideal)))), ∀ op ∈ ops,
    ∀ w, Proc.devRef .tc (Pipeline.arrRef spec0 w) ∉ op.writes := by
  intro ops hops op hop w hw
  rw [List.mem_singleton] at hops
  subst hops
  have h := (List.forall_iff_forall_mem.mp after_writes) op hop hw
  obtain ⟨y, hy, he⟩ := List.mem_map.mp (List.mem_toFinset.mp h)
  have := Proc.devRef_injective _ he
  subst this
  exact absurd hy ((by decide +kernel : ∀ w, Pipeline.arrRef spec0 w ∉ afterRefs) w)

end Launch

/-! ### The run -/

variable (m : (ℓ : Loc nD τ sig) → Buf (Elt Ideal) ℓ)

/-- What a core's buffers hold when the launch begins. -/
abbrev atLaunch (c : Dev nD) : Valuation τ sig (Elt Ideal) :=
  StableHlo.after (List.flatten [hostOps0]) (fun b => m (c, b))

/-- The sorted boxes of core `c`'s arguments. -/
abbrev boxes (c : Dev nD) : Boxes := kBoxes (fun b => m (c, b))
/-- The sorted scores. -/
abbrev scores (c : Dev nD) : Scores := kScores (fun b => m (c, b))

/-- The launch's data of a run from `m`. -/
abbrev runDats (p : Fin 1) (c : Dev nD) : Dat τ (Elt Ideal) Unit ℕ (UR sig nD τ) ℕ (cfgs (F := Ideal) p) c :=
  dats (atLaunch m) (boxes m) (fun c => validBits (scores m c)) p c

set_option maxHeartbeats 800000 in
/-- The program up to the launch: the host lines leave the buffers as `atLaunch` says. -/
theorem reaches : Pipeline.HMainK (Ix := Unit) (Name := ℕ) (U := UR sig nD τ) (Lvl := ℕ) cfgs 0 (defs₀ (F := Ideal)) 𝒱₀ m main
    (fun c b => atLaunch m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- What a core's buffers hold at the end. -/
abbrev atEnd (c : Dev nD) (b : Ref sig .tc) : Buf (Elt Ideal) ((c.tc : Thread nD τ).loc b) :=
  Pipeline.afterTail₀ (cfgs (F := Ideal)) (runDats m) 0 (atLaunch m) [hostOps1] c b

/-- Every run terminates, with the buffers as `atEnd` says and every semaphore at zero. -/
theorem runs (g : Dev nD → PrngReg) :
    θ_run (defs (F := Ideal)) (onTc (τ := τ) (main (F := Ideal))) ⟨m, fun _ => 0, g⟩
      (fun r => Pipeline.FramePost (cfgs (F := Ideal)) (runDats m) 0 (atEnd m) r ∧ r.2.sem = fun _ => 0) :=
  Pipeline.θ_run_frame_around (cfgs (F := Ideal)) (runDats m) 0 launch0 defs₀ 𝒱₀ m g main
    (fun c => (body_point (atLaunch m) (boxes m) (fun c => validBits (scores m c))
      (fun c => read_rows (fun b => m (c, b))) (fun c => read_cols (fun b => m (c, b))) c).loose)
    (share_whole _ _ _) (fun _ _ => rfl) (atLaunch m) [hostOps1] tail_sub tail_fresh tail_keeps (reaches m)
    (fun _ _ => rfl) (fun _ _ => rfl) _ (fun _ h => h)

/-! ### What the buffers hold at the end -/

/-- A buffer no host line writes and no window stages ends as it began. -/
theorem end_kept (c : Dev nD) (a : Ref sig .tc) (h0 : a ∉ beforeRefs) (h1 : a ∉ afterRefs)
    (hw : ∀ w, Pipeline.arrRef spec0 w ≠ a) : atEnd m c a = m ((c.tc : Thread nD τ).loc a) := by
  unfold atEnd Pipeline.afterTail₀
  rw [List.flatten_singleton]
  refine (StableHlo.after_of_writes_sub hostOps1 _ after_writes h1).trans ?_
  refine (Pipeline.withArrays_of_ne spec0 c (atLaunch m c) _ a hw).trans ?_
  unfold atLaunch
  rw [List.flatten_singleton]
  exact StableHlo.after_of_writes_sub hostOps0 _ before_writes h0

/-- The result at the end. -/
theorem end_result (c : Dev nD) : atEnd m c main_v0
    = tail (boxes m c) (scores m c) (keepBits (flags (box (boxes m c)) (Cert.Proof.valid (validBits (scores m c))))) := by
  unfold atEnd Pipeline.afterTail₀
  rw [List.flatten_singleton]
  refine (read_result _).trans ?_
  refine congr (congr (congrArg tail ?_) ?_) (congrArg keepBits ?_)
  · refine (Pipeline.withArrays_of_ne spec0 c (atLaunch m c) _ main_call0_v8 (by decide)).trans ?_
    exact read_boxes (fun b => m (c, b))
  · refine (Pipeline.withArrays_of_ne spec0 c (atLaunch m c) _ main_call0_v15 (by decide)).trans ?_
    exact read_scores (fun b => m (c, b))
  · refine (Pipeline.withArrays_arr spec0 (launch0 (F := Ideal)).win.arr_inj c (atLaunch m c) _ 2).trans ?_
    exact flags_array _ _ _ c

/-- The kernel's run: it terminates with the result `tail` of the sorted boxes, the sorted scores and the rule's flags, its
    arguments unchanged and every semaphore at zero. -/
theorem kernel_runs (g : Dev nD → PrngReg) :
    θ_run (defs (F := Ideal)) (onTc (τ := τ) (main (F := Ideal))) ⟨m, fun _ => 0, g⟩
      (fun r => (∀ c : Dev nD, r.2.mem ((c.tc : Thread nD τ).loc main_v0)
            = tail (boxes m c) (scores m c) (keepBits (flags (box (boxes m c)) (Cert.Proof.valid (validBits (scores m c)))))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) := by
  refine θ_run_mono (runs m g) fun r hr => ⟨fun c => ⟨?_, ?_, ?_⟩, hr.2⟩
  · exact ((hr.1 c).2 main_v0 (Pipeline.mem_restRefs_of _ rfl (by decide))).trans (end_result m c)
  · exact ((hr.1 c).2 main_arg0 (Pipeline.mem_restRefs_of _ rfl (by decide))).trans
      (end_kept m c main_arg0 (by decide +kernel) (by decide +kernel) (by decide))
  · exact ((hr.1 c).2 main_arg1 (Pipeline.mem_restRefs_of _ rfl (by decide))).trans
      (end_kept m c main_arg1 (by decide +kernel) (by decide +kernel) (by decide))

end Cert.Proof

end
-- ==== Proof.RefHost.lean ====
/-
  The reference's host operations before its loop: the boxes and scores in descending order are the kernel program's
  (`ref_boxes`, `ref_scores`), and the overlap matrix at a pair of boxes is their intersection over union (`matrix_at`).
-/
module

public import proofs.«01_k».proof.Proof.Sorted
public import proofs.«01_k».proof.Proof.Gen.ReferenceIdeal.Run
public import Idealize.ShloMosaic.Lib.StableHlo.ReadAt

@[expose] public section

set_option maxRecDepth 16384

noncomputable section

namespace Cert.Proof

open Cert.ReferenceIdeal Cert.ReferenceIdeal.Gen
open Idealize.ShloMosaic Idealize.SL.Sem
open Idealize.ShloMosaic.TcCoe Idealize.ShloMosaic.Tactic

/-! ### The overlap matrix -/

/-- A matrix of 5000 by 5000. -/
abbrev Matrix5000 := (⟨S5000x5000, .f32⟩ : BufTy).Contents (Elt Ideal)
/-- Two of them. -/
abbrev Matrices := (⟨S5000x5000x2, .f32⟩ : BufTy).Contents (Elt Ideal)

/-- Column `d` of the boxes. -/
def column (b : Boxes) (d : ℕ) (h : S5000x4.Slices ![0, d] S5000x1) : (⟨S5000, .f32⟩ : BufTy).Contents (Elt Ideal) :=
  shapeCast S5000 (extractStridedSlice S5000x1 ![0, d] b h) shapeCasts_S5000x1_S5000

/-- The boxes' areas. -/
def areas (b : Boxes) : (⟨S5000, .f32⟩ : BufTy).Contents (Elt Ideal) :=
  mulf (F := Ideal) (φ := .f32) (subf (column b 2 slices_S5000x4_S5000x1_0_2) (column b 0 slices_S5000x4_S5000x1_0_0))
    (subf (column b 3 slices_S5000x4_S5000x1_0_3) (column b 1 slices_S5000x4_S5000x1_0_1))

/-- A pair of coordinates of each box, along the rows of a matrix, -/
def alongRows (p : (⟨S5000x2, .f32⟩ : BufTy).Contents (Elt Ideal)) : Matrices :=
  broadcastInDim S5000x5000x2 ![0, 1, 2] bcast_S5000x1x2_S5000x5000x2_0_1_2
    (broadcastInDim S5000x1x2 ![0, 2] bcast_S5000x2_S5000x1x2_0_2 p)

/-- and along its columns. -/
def alongCols (p : (⟨S5000x2, .f32⟩ : BufTy).Contents (Elt Ideal)) : Matrices :=
  broadcastInDim S5000x5000x2 ![0, 1, 2] bcast_S1x5000x2_S5000x5000x2_0_1_2
    (broadcastInDim S1x5000x2 ![1, 2] bcast_S5000x2_S1x5000x2_1_2 p)

/-- The common width and height of each pair of boxes, negative where they are apart. -/
def extents (b : Boxes) : Matrices :=
  subf (F := Ideal) (φ := .f32)
    (minimumf (F := Ideal) (φ := .f32) (alongRows (extractStridedSlice S5000x2 ![0, 2] b slices_S5000x4_S5000x2_0_2))
      (alongCols (extractStridedSlice S5000x2 ![0, 2] b slices_S5000x4_S5000x2_0_2)))
    (maximumf (F := Ideal) (φ := .f32) (alongRows (extractStridedSlice S5000x2 ![0, 0] b slices_S5000x4_S5000x2_0_0))
      (alongCols (extractStridedSlice S5000x2 ![0, 0] b slices_S5000x4_S5000x2_0_0)))

/-- The same, zero where negative. -/
def clipped (g : Matrices) : Matrices :=
  maximumf (F := Ideal) (φ := .f32)
    (broadcastInDim S5000x5000x2 ![] bcast_S_S5000x5000x2 (constant (F := Ideal) S_ .f32 0x00000000#32)) g

/-- The shared area of each pair. -/
def shared (g : Matrices) : Matrix5000 :=
  mulf (F := Ideal) (φ := .f32)
    (shapeCast S5000x5000 (extractStridedSlice S5000x5000x1 ![0, 0, 0] g slices_S5000x5000x2_S5000x5000x1_0_0_0) shapeCasts_S5000x5000x1_S5000x5000)
    (shapeCast S5000x5000 (extractStridedSlice S5000x5000x1 ![0, 0, 1] g slices_S5000x5000x2_S5000x5000x1_0_0_1) shapeCasts_S5000x5000x1_S5000x5000)

/-- The sum of the areas of each pair. -/
def areaSums (p q : (⟨S5000, .f32⟩ : BufTy).Contents (Elt Ideal)) : Matrix5000 :=
  addf (F := Ideal) (φ := .f32)
    (broadcastInDim S5000x5000 ![0, 1] bcast_S5000x1_S5000x5000_0_1 (broadcastInDim S5000x1 ![0] bcast_S5000_S5000x1_0 p))
    (broadcastInDim S5000x5000 ![0, 1] bcast_S1x5000_S5000x5000_0_1 (broadcastInDim S1x5000 ![1] bcast_S5000_S1x5000_1 q))

/-- Intersection over union, from the shared areas and the sums. -/
def quotient (i a : Matrix5000) : Matrix5000 :=
  Host.divf (F := Ideal) (φ := .f32) i
    (addf (F := Ideal) (φ := .f32) (subf (F := Ideal) (φ := .f32) a i)
      (broadcastInDim S5000x5000 ![] bcast_S_S5000x5000 (constant (F := Ideal) S_ .f32 0x3089705F#32)))

/-- The overlap matrix. -/
def matrix (b : Boxes) : Matrix5000 :=
  quotient (shared (clipped (extents b))) (areaSums (areas b) (areas b))

/-! ### What the lines leave -/

variable (V : Valuation τ sig (Elt Ideal))

/-- The boxes after the first lines, from the arguments. -/
abbrev rBoxes : Boxes := sortedBoxes (V (Proc.devRef .tc main_arg0)) (V (Proc.devRef .tc main_arg1))
/-- The scores. -/
abbrev rScores : Scores := sortedScores (V (Proc.devRef .tc main_arg1))

/-! The first two groups: the positions in descending order. -/

theorem read_order : StableHlo.after hostOps0_1 (StableHlo.after hostOps0 V) (Proc.devRef .tc main_v1)
    = order (V (Proc.devRef .tc main_arg1)) := by
  after_reads_simp
  simp -implicitDefEqProofs only [StableHlo.TRef.toBuf, StableHlo.TRef.ofBuf, cast_cast, cast_eq]
  rfl

/-! The third, from the positions and the arguments. -/

/-- The boxes at the positions `i`, -/
def boxesAt (b : Boxes) (i : Words) : Boxes :=
  Host.gather gather_S5000x4_S5000x1_S5000x4_1_0_n_n_0_1_14 b
    (broadcastInDim S5000x1 ![0] bcast_S5000_S5000x1_0 (wrapped i))

/-- and the scores. -/
def scoresAt (x : Scores) (i : Words) : Scores :=
  Host.gather gather_S5000_S5000x1_S5000_n_0_n_n_0_1_1 x
    (broadcastInDim S5000x1 ![0] bcast_S5000_S5000x1_0 (wrapped i))

theorem third_boxes : StableHlo.after hostOps0_2 V (Proc.devRef .tc main_v8)
    = boxesAt (V (Proc.devRef .tc main_arg0)) (V (Proc.devRef .tc main_v1)) := by
  after_reads_simp
  rfl

theorem third_scores : StableHlo.after hostOps0_2 V (Proc.devRef .tc main_v15)
    = scoresAt (V (Proc.devRef .tc main_arg1)) (V (Proc.devRef .tc main_v1)) := by
  after_reads_simp
  rfl

theorem third_valid : StableHlo.after hostOps0_2 V (Proc.devRef .tc main_v17)
    = validBits (scoresAt (V (Proc.devRef .tc main_arg1)) (V (Proc.devRef .tc main_v1))) := by
  after_reads_simp
  rfl

theorem third_areas : StableHlo.after hostOps0_2 V (Proc.devRef .tc main_v28)
    = areas (boxesAt (V (Proc.devRef .tc main_arg0)) (V (Proc.devRef .tc main_v1))) := by
  after_reads_simp
  rfl

theorem third_areas' : StableHlo.after hostOps0_2 V (Proc.devRef .tc main_v39)
    = areas (boxesAt (V (Proc.devRef .tc main_arg0)) (V (Proc.devRef .tc main_v1))) := by
  after_reads_simp
  rfl

theorem third_extents : StableHlo.after hostOps0_2 V (Proc.devRef .tc main_v54)
    = extents (boxesAt (V (Proc.devRef .tc main_arg0)) (V (Proc.devRef .tc main_v1))) := by
  after_reads_simp
  rfl

theorem third_zero : StableHlo.after hostOps0_2 V (Proc.devRef .tc main_cst_3)
    = constant (F := Ideal) S_ .f32 0x00000000#32 := by
  after_reads_simp

/-! The fourth and the fifth. -/

theorem fourth_clipped : StableHlo.after hostOps0_3 V (Proc.devRef .tc main_v55)
    = maximumf (F := Ideal) (φ := .f32) (broadcastInDim S5000x5000x2 ![] bcast_S_S5000x5000x2
        (V (Proc.devRef .tc main_cst_3))) (V (Proc.devRef .tc main_v54)) := by
  after_reads_simp
  simp -implicitDefEqProofs only [StableHlo.TRef.toBuf, StableHlo.TRef.ofBuf, cast_cast, cast_eq]
  rfl

theorem fifth_matrix : StableHlo.after hostOps0_4 V (Proc.devRef .tc main_v71_0)
    = quotient (shared (V (Proc.devRef .tc main_v55)))
        (areaSums (V (Proc.devRef .tc main_v28)) (V (Proc.devRef .tc main_v39))) := by
  after_reads_simp
  rfl

theorem fifth_places : StableHlo.after hostOps0_4 V (Proc.devRef .tc main_v71_1) = iotaInDim S5000 32 0 := by
  after_reads_simp
  rfl

theorem fifth_count : StableHlo.after hostOps0_4 V (Proc.devRef .tc main_v71_3) = constantI S_ 32 0#32 := by
  after_reads_simp
  rfl

theorem fifth_valid : StableHlo.after hostOps0_4 V (Proc.devRef .tc main_v71_4) = V (Proc.devRef .tc main_v17) := by
  after_reads_simp
  rfl

/-! ### After the loop -/

/-- The scores with those of the boxes not kept at minus infinity. -/
theorem last_masked : StableHlo.after hostOps0_6 (StableHlo.after hostOps0_5 V) (Proc.devRef .tc main_v72)
    = maskedScores (V (Proc.devRef .tc main_v15)) (V (Proc.devRef .tc main_v71_4)) := by
  after_reads_simp
  simp -implicitDefEqProofs only [StableHlo.TRef.toBuf, StableHlo.TRef.ofBuf, cast_cast, cast_eq]
  rfl

theorem last_boxes : StableHlo.upto hostOps0_7 V 12 (Proc.devRef .tc main_v79)
    = topBoxes (V (Proc.devRef .tc main_v8)) (V (Proc.devRef .tc main_v72)) := by
  after_reads_simp
  rfl

theorem last_column : StableHlo.upto hostOps0_7 V 12 (Proc.devRef .tc main_v80)
    = topColumn (V (Proc.devRef .tc main_v72)) := by
  after_reads_simp
  rfl

theorem last_rows : StableHlo.after hostOps0_7 V (Proc.devRef .tc main_v81)
    = beside (topBoxes (V (Proc.devRef .tc main_v8)) (V (Proc.devRef .tc main_v72)))
        (topColumn (V (Proc.devRef .tc main_v72))) := by
  after_reads_simp
  rw [last_boxes, last_column]
  rfl

end Cert.Proof

end
-- ==== Proof.RefMatrix.lean ====
/-
  The reference's overlap matrix at a pair of boxes is their intersection over union (`matrix_at`).
-/
module

public import proofs.«01_k».proof.Proof.RefHost

@[expose] public section

set_option maxRecDepth 16384

noncomputable section

namespace Cert.Proof

open Cert.ReferenceIdeal Cert.ReferenceIdeal.Gen
open Idealize.ShloMosaic
open Idealize.ShloMosaic.TcCoe Idealize.ShloMosaic.Tactic

/-- Coordinate `d` of box `r`. -/
theorem column_at (b : Boxes) (d : Fin 4) (h) (r : Fin 5000) : column b d.val h (ix1 r) = b (ix2 r d) := by
  fin_cases d <;> (unfold column; pointwise)

theorem areas_at (b : Boxes) (r : Fin 5000) : areas b (ix1 r) = area (fun d => b (ix2 r d)) := by
  have h0 := column_at b 0 slices_S5000x4_S5000x1_0_0 r
  have h1 := column_at b 1 slices_S5000x4_S5000x1_0_1 r
  have h2 := column_at b 2 slices_S5000x4_S5000x1_0_2 r
  have h3 := column_at b 3 slices_S5000x4_S5000x1_0_3 r
  show (column b 2 _ (ix1 r) - column b 0 _ (ix1 r)) * (column b 3 _ (ix1 r) - column b 1 _ (ix1 r)) = _
  exact congrArg₂ _ (congrArg₂ _ h2 h0) (congrArg₂ _ h3 h1)

theorem alongRows_at (p : (⟨S5000x2, .f32⟩ : BufTy).Contents (Elt Ideal)) (c r : Fin 5000) (e : Fin 2) :
    alongRows p (ix3 c r e) = p (ix2 c e) := by
  unfold alongRows; pointwise

theorem alongCols_at (p : (⟨S5000x2, .f32⟩ : BufTy).Contents (Elt Ideal)) (c r : Fin 5000) (e : Fin 2) :
    alongCols p (ix3 c r e) = p (ix2 r e) := by
  unfold alongCols; pointwise

theorem near_at (b : Boxes) (r : Fin 5000) (e : Fin 2) :
    (extractStridedSlice S5000x2 ![0, 0] b slices_S5000x4_S5000x2_0_0) (ix2 r e) = b (ix2 r (⟨e.val, by omega⟩ : Fin 4)) := by
  pointwise

theorem far_at (b : Boxes) (r : Fin 5000) (e : Fin 2) :
    (extractStridedSlice S5000x2 ![0, 2] b slices_S5000x4_S5000x2_0_2) (ix2 r e) = b (ix2 r (⟨2 + e.val, by omega⟩ : Fin 4)) := by
  pointwise

theorem extents_at (b : Boxes) (c r : Fin 5000) (e : Fin 2) :
    extents b (ix3 c r e)
      = min (b (ix2 c (⟨2 + e.val, by omega⟩ : Fin 4))) (b (ix2 r (⟨2 + e.val, by omega⟩ : Fin 4)))
        - max (b (ix2 c (⟨e.val, by omega⟩ : Fin 4))) (b (ix2 r (⟨e.val, by omega⟩ : Fin 4))) := by
  show min (alongRows _ (ix3 c r e)) (alongCols _ (ix3 c r e)) - max (alongRows _ (ix3 c r e)) (alongCols _ (ix3 c r e)) = _
  rw [alongRows_at, alongCols_at, alongRows_at, alongCols_at]
  exact congrArg₂ _ (congrArg₂ _ (far_at b c e) (far_at b r e)) (congrArg₂ _ (near_at b c e) (near_at b r e))

theorem clipped_at (g : Matrices) (c r : Fin 5000) (e : Fin 2) : clipped g (ix3 c r e) = max (g (ix3 c r e)) 0 := by
  unfold clipped
  rw [max_comm]
  pointwise

theorem shared_at (g : Matrices) (c r : Fin 5000) :
    shared g (ix2 c r) = g (ix3 c r (0 : Fin 2)) * g (ix3 c r (1 : Fin 2)) := by
  unfold shared; pointwise

theorem areaSums_at (p q : (⟨S5000, .f32⟩ : BufTy).Contents (Elt Ideal)) (c r : Fin 5000) :
    areaSums p q (ix2 c r) = p (ix1 c) + q (ix1 r) := by
  unfold areaSums; pointwise

theorem quotient_at (i a : Matrix5000) (c r : Fin 5000) :
    quotient i a (ix2 c r) = Ideal.div (i (ix2 c r)) (a (ix2 c r) - i (ix2 c r) + eps) := by
  unfold quotient; pointwise; rfl

/-- The matrix at boxes `c` and `r` is their intersection over union. -/
theorem matrix_at (b : Boxes) (c r : Fin 5000) : matrix b (ix2 c r) = iou (box b c.val) (box b r.val) := by
  have hb : ∀ x : Fin 5000, box b x.val = fun d => b (ix2 x d) := fun x => funext fun d => box_lt b x.isLt d
  rw [hb, hb, iou, ← areas_at, ← areas_at, ← areaSums_at]
  have hi : shared (clipped (extents b)) (ix2 c r) = inter (fun d => b (ix2 c d)) (fun d => b (ix2 r d)) := by
    rw [shared_at, clipped_at, clipped_at, extents_at, extents_at]
    rfl
  rw [← hi]
  exact quotient_at _ _ c r

end Cert.Proof

end
-- ==== Proof.RefStep.lean ====
/-
  One trip of the reference's loop on the bits (`stepBits`): at trip `k` the bit of a box goes out exactly when box `k`
  still stands, lies before it and overlaps it by more than one half (`stepBits_at`). So after `k` trips the bits are those
  of the greedy rule against the first `k` boxes (`standing`), and after all trips the rule's own (`standing_kept`).
-/
module

public import proofs.«01_k».proof.Proof.RefMatrix
public import proofs.«01_k».proof.Proof.Greedy
public import Idealize.ShloMosaic.Lib.DynamicIndex

@[expose] public section

set_option maxRecDepth 16384

noncomputable section

namespace Cert.Proof

open Cert.ReferenceIdeal Cert.ReferenceIdeal.Gen
open Idealize.ShloMosaic
open Idealize.ShloMosaic.TcCoe Idealize.ShloMosaic.Tactic

/-- A single index word. -/
abbrev Word := (⟨S_, .i32⟩ : BufTy).Contents (Elt Ideal)

/-- The word of a number. -/
abbrev word (k : ℕ) : Word := constantI S_ 32 (BitVec.ofNat 32 k)

/-- A negative position counts from the end. -/
def wrapped1 (n : Word) : Word :=
  select (cmpi .slt n (constantI S_ 32 0#32)) (addi n (constantI S_ 32 5000#32)) n

/-- Row `n` of a matrix. -/
def rowOf (M : Matrix5000) (n : Word) : Scores :=
  shapeCast S5000 (Host.dynamicSlice S1x5000 M
    (fun k => (((![wrapped1 n, wrapped1 (constantI S_ 32 0#32)] : Fin 2 → Word)) k (Shape.Idx.first h_S_)).toInt)
    sliceFits_S5000x5000_S1x5000) shapeCasts_S1x5000_S5000

/-- Bit `n`, for every box. -/
def bitOf (keep : Bits5000) (n : Word) : Bits5000 :=
  broadcastInDim S5000 ![] bcast_S_S5000 (shapeCast S_ (Host.dynamicSlice S1 keep
    (fun k => (((![wrapped1 n] : Fin 1 → Word)) k (Shape.Idx.first h_S_)).toInt) sliceFits_S5000_S1) shapeCasts_S1_S_)

/-- Which entries of a row exceed one half. -/
def exceeds (row : Scores) : Bits5000 :=
  cmpf (F := Ideal) (φ := .f32) .ogt row (broadcastInDim S5000 ![] bcast_S_S5000 (constant S_ .f32 0x3F000000#32))

/-- Which places lie after `n`. -/
def later (places : Words) (n : Word) : Bits5000 :=
  cmpi .sgt places (broadcastInDim S5000 ![] bcast_S_S5000 n)

/-- The bits after trip `n`. -/
def stepBits (M : Matrix5000) (places : Words) (n : Word) (keep : Bits5000) : Bits5000 :=
  andi keep (noti (andi (andi (exceeds (rowOf M n)) (later places n)) (bitOf keep n)))

theorem wrapped1_word (k : ℕ) (hk : k < 5000) (i) : (wrapped1 (word k) i).toInt = (k : ℤ) :=
  toInt_wrap_ofNat k (by omega)

theorem rowOf_at (M : Matrix5000) (k : Fin 5000) (r : Fin 5000) : rowOf M (word k.val) (ix1 r) = M (ix2 k r) := by
  have hs : S5000x5000.Slices ![k.val, 0] S1x5000 :=
    ⟨rfl, fun a => by
      fin_cases a
      · show k.val + 1 ≤ 5000; omega
      · show 0 + 5000 ≤ 5000; omega⟩
  unfold rowOf
  rw [Host.dynamicSlice_eq_extractStridedSlice S1x5000 M _ ![k.val, 0] _ hs fun a => by
    fin_cases a
    · exact wrapped1_word k.val k.isLt (Shape.Idx.first h_S_)
    · exact wrapped1_word 0 (by omega) (Shape.Idx.first h_S_)]
  pointwise

theorem bitOf_at (keep : Bits5000) (k r : Fin 5000) : bitOf keep (word k.val) (ix1 r) = keep (ix1 k) := by
  have hs : S5000.Slices ![k.val] S1 := ⟨rfl, fun a => by fin_cases a; (show k.val + 1 ≤ 5000; omega)⟩
  unfold bitOf
  rw [Host.dynamicSlice_eq_extractStridedSlice S1 keep _ ![k.val] _ hs fun a => by
    fin_cases a
    exact wrapped1_word k.val k.isLt (Shape.Idx.first h_S_)]
  pointwise

/-- A bit is one exactly when what it decides holds. -/
theorem ofBool_one (b : Bool) : BitVec.ofBool b = 1#1 ↔ b = true := by cases b <;> decide

theorem exceeds_at (row : Scores) (r : Fin 5000) : exceeds row (ix1 r) = 1#1 ↔ half < row (ix1 r) := by
  have : exceeds row (ix1 r) = FloatOps.cmpf (F := Ideal) (φ := .f32) .ogt (row (ix1 r)) half := rfl
  rw [this]
  show BitVec.ofBool (decide (half < row (ix1 r))) = 1#1 ↔ _
  rw [ofBool_one, decide_eq_true_iff]

theorem later_at (k r : Fin 5000) : later (iotaInDim S5000 32 0) (word k.val) (ix1 r) = 1#1 ↔ k.val < r.val := by
  show BitVec.ofBool ((BitVec.ofNat 32 k.val).slt (BitVec.ofNat 32 r.val)) = 1#1 ↔ _
  rw [ofBool_one, BitVec.slt, decide_eq_true_iff, toInt_ofNat_of_lt (by omega), toInt_ofNat_of_lt (by omega)]
  omega

theorem bits (a b c d : BitVec 1) :
    a &&& ~~~(b &&& c &&& d) = 1#1 ↔ a = 1#1 ∧ ¬ (b = 1#1 ∧ c = 1#1 ∧ d = 1#1) := by
  revert a b c d; decide

/-- One trip at one box. -/
theorem stepBits_at (b : Boxes) (keep : Bits5000) (k r : Fin 5000) :
    stepBits (matrix b) (iotaInDim S5000 32 0) (word k.val) keep (ix1 r) = 1#1
      ↔ keep (ix1 r) = 1#1 ∧ ¬ (over (box b k.val) (box b r.val) ∧ k.val < r.val ∧ keep (ix1 k) = 1#1) := by
  have hx := exceeds_at (rowOf (matrix b) (word k.val)) r
  rw [rowOf_at, matrix_at] at hx
  rw [over, ← hx, ← later_at k r, ← bitOf_at keep k r]
  exact bits _ _ _ _

/-- Box `r` stands after `n` trips: it counts, and no box before it among the first `n` that is kept overlaps it. -/
def standing (b : Boxes) (v : Bits5000) (n r : ℕ) : Prop :=
  valid v r ∧ ∀ c < n, c < r → kept (valid v) (ovl (box b)) c → ¬ ovl (box b) r c

/-- The bits after `n` trips. -/
def Stands (b : Boxes) (v : Bits5000) (n : ℕ) (keep : Bits5000) : Prop :=
  ∀ r : Fin 5000, keep (ix1 r) = 1#1 ↔ standing b v n r.val

/-- Before the first trip the boxes that count stand. -/
theorem stands_zero (b : Boxes) (v : Bits5000) : Stands b v 0 v := fun r =>
  ⟨fun h => ⟨⟨r.isLt, h⟩, fun _ hc => absurd hc (Nat.not_lt_zero _)⟩, fun ⟨⟨_, h⟩, _⟩ => h⟩

/-- A box that has met all boxes before it stands exactly when it is kept. -/
theorem standing_kept (b : Boxes) (v : Bits5000) {n r : ℕ} (h : r ≤ n) :
    standing b v n r ↔ kept (valid v) (ovl (box b)) r := by
  rw [kept_iff]
  exact and_congr_right fun _ => ⟨fun q c hc => q c (by omega) hc, fun q c _ hc => q c hc⟩

/-- One trip more. -/
theorem stands_succ (b : Boxes) (v : Bits5000) (k : ℕ) (hk : k < 5000) (keep : Bits5000) (h : Stands b v k keep) :
    Stands b v (k + 1) (stepBits (matrix b) (iotaInDim S5000 32 0) (word k) keep) := by
  intro r
  refine (stepBits_at b keep ⟨k, hk⟩ r).trans ?_
  rw [h r, h ⟨k, hk⟩, standing_kept b v (le_refl k)]
  constructor
  · rintro ⟨⟨hv, hc⟩, hn⟩
    refine ⟨hv, fun c hlt hcr hkept ho => ?_⟩
    rcases Nat.lt_succ_iff_lt_or_eq.mp hlt with hl | rfl
    · exact hc c hl hcr hkept ho
    · exact hn ⟨(over_comm _ _).mp ho, hcr, hkept⟩
  · rintro ⟨hv, hc⟩
    exact ⟨⟨hv, fun c hl => hc c (by omega)⟩, fun ⟨ho, hkr, hkept⟩ => hc k (by omega) hkr hkept ((over_comm _ _).mp ho)⟩

end Cert.Proof

end
-- ==== Proof.RefRun.lean ====
/-
  The reference's run: it terminates with its result the rows `tail` of the sorted boxes, the sorted scores and bits that
  are the greedy rule's, its arguments unchanged and every semaphore at zero (`reference_runs`).
-/
module

public import proofs.«01_k».proof.Proof.RefStep
public import Idealize.ShloMosaic.Lib.Quiescent
public import Idealize.ShloMosaic.Lib.StableHlo.RunHlo

@[expose] public section

set_option maxRecDepth 16384

noncomputable section

namespace Cert.Proof

open Cert.ReferenceIdeal Cert.ReferenceIdeal.Gen Cert.ReferenceIdeal.Value
open Idealize.ShloMosaic Idealize.ShloMosaic.StableHlo Idealize.SL.Sem
open Idealize.ShloMosaic.TcCoe Idealize.ShloMosaic.Tactic

variable (m : (ℓ : Loc nD τ sig) → Buf (Elt Ideal) ℓ) (c : Dev nD)

/-- The sorted boxes of core `c`'s arguments. -/
abbrev refBoxes : Boxes := rBoxes (fun b => m (c, b))
/-- The sorted scores. -/
abbrev refScores : Scores := rScores (fun b => m (c, b))

/-! ### At the loop's entry -/

/-- What a core's buffers hold after the first two groups. -/
abbrev sorted : Valuation τ sig (Elt Ideal) := after hostOps0_1 (after hostOps0 (launchContents m c))

theorem sorted_order : sorted m c (Proc.devRef .tc main_v1) = order (m (c, Proc.devRef .tc main_arg1)) :=
  read_order (launchContents m c)

theorem sorted_keeps (a : Ref sig .tc) (h0 : a ∉ (hostOps0_W)) (h1 : a ∉ (hostOps0_1_W)) :
    sorted m c (Proc.devRef .tc a) = m (c, Proc.devRef .tc a) :=
  (after_of_writes_sub hostOps0_1 _ hostOps0_1_writes h1).trans (after_of_writes_sub hostOps0 _ hostOps0_writes h0)

theorem sorted_boxes : boxesAt (sorted m c (Proc.devRef .tc main_arg0)) (sorted m c (Proc.devRef .tc main_v1)) = refBoxes m c := by
  rw [sorted_order, sorted_keeps m c main_arg0 (by decide) (by decide)]
  rfl

theorem sorted_scores : scoresAt (sorted m c (Proc.devRef .tc main_arg1)) (sorted m c (Proc.devRef .tc main_v1)) = refScores m c := by
  rw [sorted_order, sorted_keeps m c main_arg1 (by decide) (by decide)]
  rfl

/-- What the loop's entry holds. -/
abbrev entry : Valuation τ sig (Elt Ideal) := entryContents preI m c

theorem entry_eq : entry m c = after hostOps0_4 (after hostOps0_3 (after hostOps0_2 (sorted m c))) := rfl

theorem entry_boxes : entry m c (Proc.devRef .tc main_v8) = refBoxes m c := by
  rw [entry_eq, after_of_writes_sub hostOps0_4 _ hostOps0_4_writes (by decide +kernel),
    after_of_writes_sub hostOps0_3 _ hostOps0_3_writes (by decide +kernel), third_boxes, sorted_boxes]

theorem entry_scores : entry m c (Proc.devRef .tc main_v15) = refScores m c := by
  rw [entry_eq, after_of_writes_sub hostOps0_4 _ hostOps0_4_writes (by decide +kernel),
    after_of_writes_sub hostOps0_3 _ hostOps0_3_writes (by decide +kernel), third_scores, sorted_scores]

theorem entry_matrix : entry m c (Proc.devRef .tc main_v71_0) = matrix (refBoxes m c) := by
  rw [entry_eq, fifth_matrix, fourth_clipped,
    after_of_writes_sub hostOps0_3 _ hostOps0_3_writes (show main_v28 ∉ hostOps0_3_W by decide +kernel),
    after_of_writes_sub hostOps0_3 _ hostOps0_3_writes (show main_v39 ∉ hostOps0_3_W by decide +kernel),
    third_areas, third_areas', third_extents, third_zero, sorted_boxes]
  rfl

theorem entry_places : entry m c (Proc.devRef .tc main_v71_1) = iotaInDim S5000 32 0 := by
  rw [entry_eq, fifth_places]

theorem entry_count : entry m c (Proc.devRef .tc main_v71_3) = constantI S_ 32 0#32 := by
  rw [entry_eq, fifth_count]

theorem entry_valid : entry m c (Proc.devRef .tc main_v71_4) = validBits (refScores m c) := by
  rw [entry_eq, fifth_valid, after_of_writes_sub hostOps0_3 _ hostOps0_3_writes (by decide +kernel), third_valid, sorted_scores]

theorem entry_keeps (a : Ref sig .tc) (h0 : a ∉ hostOps0_W) (h1 : a ∉ hostOps0_1_W) (h2 : a ∉ hostOps0_2_W)
    (h3 : a ∉ hostOps0_3_W) (h4 : a ∉ hostOps0_4_W) : entry m c (Proc.devRef .tc a) = m (c, Proc.devRef .tc a) := by
  rw [entry_eq, after_of_writes_sub hostOps0_4 _ hostOps0_4_writes h4, after_of_writes_sub hostOps0_3 _ hostOps0_3_writes h3,
    after_of_writes_sub hostOps0_2 _ hostOps0_2_writes h2, sorted_keeps m c a h0 h1]

/-! ### Round the loop -/

/-- A buffer neither the condition nor a trip writes stays as at the entry. -/
theorem loop_keeps (a : Ref sig .tc) (hb : a ∉ while0Ops0_W) (hc : a ∉ condOps_W) :
    ∀ k, atK m k c (Proc.devRef .tc a) = entry m c (Proc.devRef .tc a)
  | 0 => rfl
  | k + 1 =>
    (after_of_writes_sub while0Ops0 _ while0Ops0_writes hb).trans
      ((after_of_writes_sub condOps _ condOps_writes hc).trans (loop_keeps a hb hc k))

/-- What the carried buffers hold before trip `k`: the matrix, the places, the count and the bits standing. -/
structure Before (k : ℕ) (V : Valuation τ sig (Elt Ideal)) : Prop where
  matrix : V (Proc.devRef .tc main_v71_0) = matrix (refBoxes m c)
  places : V (Proc.devRef .tc main_v71_1) = iotaInDim S5000 32 0
  count : V (Proc.devRef .tc main_v71_3) = word k
  bits : Stands (refBoxes m c) (validBits (refScores m c)) k (V (Proc.devRef .tc main_v71_4))

theorem trip_bits (V : Valuation τ sig (Elt Ideal)) : step_main_v71_4 V
    = stepBits (V (Proc.devRef .tc main_v71_0)) (V (Proc.devRef .tc main_v71_1)) (V (Proc.devRef .tc main_v71_3))
        (V (Proc.devRef .tc main_v71_4)) := rfl

theorem before_iterate : ∀ k ≤ 5000, Before m c k (STEP^[k] (entry m c))
  | 0, _ => ⟨entry_matrix m c, entry_places m c, entry_count m c, by
      rw [Function.iterate_zero, id, entry_valid]; exact stands_zero _ _⟩
  | k + 1, hk => by
    have h := before_iterate k (by omega)
    rw [Function.iterate_succ_apply']
    refine ⟨(STEP_main_v71_0 _).trans h.matrix, (STEP_main_v71_1 _).trans h.places, ?_, ?_⟩
    · rw [STEP_main_v71_3, step_main_v71_3, h.count]
      funext i
      show BitVec.ofNat 32 k + 1#32 = BitVec.ofNat 32 (k + 1)
      rw [BitVec.ofNat_add]
    · rw [STEP_main_v71_4, trip_bits, h.matrix, h.places, h.count]
      exact stands_succ _ _ k (by omega) _ h.bits

/-- The bits after the loop. -/
abbrev refBits : Bits5000 := atK m 5000 c (Proc.devRef .tc main_v71_4)

/-- They are the greedy rule's. -/
theorem refBits_kept (r : Fin 5000) : refBits m c (ix1 r) = 1#1
    ↔ kept (Cert.Proof.valid (validBits (refScores m c))) (ovl (box (refBoxes m c))) r.val := by
  rw [refBits, atK_agree m c 5000 main_v71_4 (by decide), (before_iterate m c 5000 le_rfl).bits r]
  exact standing_kept _ _ (by omega)

/-! ### At the end -/

/-- The buffers the last three groups write. -/
abbrev lastRefs : List (Ref sig .tc) := [main_cst_7]
abbrev lastRefs' : List (Ref sig .tc) := [main_call2_v0, main_call2_v1, main_v72]
abbrev lastRefs'' : List (Ref sig .tc) :=
  [main_values, main_indices, main_c_8, main_v73, main_v74, main_c_9, main_v75, main_v76, main_v77, main_v78, main_v79, main_v80,
    main_v81]

theorem last_writes : (hostOps0_5 : List (HloOp τ sig (Elt Ideal))).Forall
    fun op => op.writes ⊆ (lastRefs.map (Proc.devRef (τ := τ) .tc)).toFinset := forall_writes_sub_of_map rfl
theorem last_writes' : (hostOps0_6 : List (HloOp τ sig (Elt Ideal))).Forall
    fun op => op.writes ⊆ (lastRefs'.map (Proc.devRef (τ := τ) .tc)).toFinset := forall_writes_sub_of_map rfl
theorem last_writes'' : (hostOps0_7 : List (HloOp τ sig (Elt Ideal))).Forall
    fun op => op.writes ⊆ (lastRefs''.map (Proc.devRef (τ := τ) .tc)).toFinset := forall_writes_sub_of_map rfl

/-- What a core's buffers hold after the loop, -/
abbrev afterLoop : Valuation τ sig (Elt Ideal) := after condOps (atK m 5000 c)

/-- and at the end. -/
abbrev refEnd : Valuation τ sig (Elt Ideal) := finalContents condOps preI bodyI postI 5000 m c

theorem refEnd_eq : refEnd m c = after hostOps0_7 (after hostOps0_6 (after hostOps0_5 (afterLoop m c))) := rfl

theorem afterLoop_keeps (a : Ref sig .tc) (hb : a ∉ while0Ops0_W) (hc : a ∉ condOps_W) :
    afterLoop m c (Proc.devRef .tc a) = entry m c (Proc.devRef .tc a) :=
  (after_of_writes_sub condOps _ condOps_writes hc).trans (loop_keeps m c a hb hc 5000)

/-- An argument ends as it began. -/
theorem refEnd_arg0 : refEnd m c (Proc.devRef .tc main_arg0) = m (c, Proc.devRef .tc main_arg0) := by
  rw [refEnd_eq, after_of_writes_sub hostOps0_7 _ last_writes'' (by decide +kernel),
    after_of_writes_sub hostOps0_6 _ last_writes' (by decide +kernel),
    after_of_writes_sub hostOps0_5 _ last_writes (by decide +kernel),
    afterLoop_keeps m c main_arg0 (by decide +kernel) (by decide +kernel),
    entry_keeps m c main_arg0 (by decide) (by decide) (by decide +kernel) (by decide) (by decide +kernel)]

theorem refEnd_arg1 : refEnd m c (Proc.devRef .tc main_arg1) = m (c, Proc.devRef .tc main_arg1) := by
  rw [refEnd_eq, after_of_writes_sub hostOps0_7 _ last_writes'' (by decide +kernel),
    after_of_writes_sub hostOps0_6 _ last_writes' (by decide +kernel),
    after_of_writes_sub hostOps0_5 _ last_writes (by decide +kernel),
    afterLoop_keeps m c main_arg1 (by decide +kernel) (by decide +kernel),
    entry_keeps m c main_arg1 (by decide) (by decide) (by decide +kernel) (by decide) (by decide +kernel)]

/-- The result at the end. -/
theorem refEnd_result : refEnd m c (Proc.devRef .tc main_v81) = tail (refBoxes m c) (refScores m c) (refBits m c) := by
  rw [refEnd_eq, last_rows, last_masked, after_of_writes_sub hostOps0_6 _ last_writes' (show main_v8 ∉ lastRefs' by decide +kernel),
    after_of_writes_sub hostOps0_5 _ last_writes (show main_v8 ∉ lastRefs by decide +kernel),
    afterLoop_keeps m c main_v8 (by decide +kernel) (by decide +kernel), entry_boxes,
    afterLoop_keeps m c main_v15 (by decide +kernel) (by decide +kernel), entry_scores,
    show afterLoop m c (Proc.devRef .tc main_v71_4) = refBits m c from cond_keeps _ main_v71_4 (by decide)]
  rfl

/-- The reference's run. -/
theorem reference_runs (g : Dev nD → PrngReg) :
    θ_run (defs (F := Ideal)) (onTc (τ := τ) (main (F := Ideal))) ⟨m, fun _ => 0, g⟩
      (fun r => (∀ c : Dev nD, r.2.mem ((c.tc : Thread nD τ).loc main_v81) = tail (refBoxes m c) (refScores m c) (refBits m c)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) :=
  θ_run_mono (run_fold m g) fun r hr =>
    ⟨fun c => ⟨(hr c main_v81 rfl).trans (refEnd_result m c), (hr c main_arg0 rfl).trans (refEnd_arg0 m c),
      (hr c main_arg1 rfl).trans (refEnd_arg1 m c)⟩, sem_eq_zero_of_no_sems (by decide) r.2⟩

end Cert.Proof

end
-- ==== Proof.Equal.lean ====
/-
  The two results are equal: the bits read from the kernel's flag row are the reference's (`bits_eq`), since both are the
  greedy rule's on the same sorted boxes and scores.
-/
module

public import proofs.«01_k».proof.Proof.KernelRun
public import proofs.«01_k».proof.Proof.RefRun

@[expose] public section

set_option maxRecDepth 16384

noncomputable section

namespace Cert.Proof

open Cert.KernelIdeal Cert.KernelIdeal.Gen
open Idealize.ShloMosaic
open Idealize.ShloMosaic.TcCoe Idealize.ShloMosaic.Tactic

/-- An indicator exceeds one half exactly when its proposition holds. -/
theorem half_lt_ind (p : Prop) : half < ind p ↔ p := by
  by_cases h : p
  · rw [ind_true h]; exact ⟨fun _ => h, fun _ => half_lt_one⟩
  · rw [ind_false h]; exact ⟨fun q => absurd q (not_lt.mpr half_nonneg), fun q => absurd q h⟩

/-- The front of a flag row, as a vector. -/
theorem front_at (k : (⟨S1x5120, .f32⟩ : BufTy).Contents (Elt Ideal)) (r : Fin 5000) :
    (shapeCast S5000 (extractStridedSlice S1x5000 ![0, 0] k slices_S1x5120_S1x5000_0_0) shapeCasts_S1x5000_S5000 : Scores) (ix1 r)
      = k (ix2 (0 : Fin 1) (⟨r.val, by omega⟩ : Fin 5120)) := by
  pointwise

/-- The bits read from the flag row are the greedy rule's. -/
theorem keepBits_kept (b : Boxes) (v : Bits5000) (r : Fin 5000) :
    keepBits (flags (box b) (Cert.Proof.valid v)) (ix1 r) = 1#1 ↔ kept (Cert.Proof.valid v) (ovl (box b)) r.val := by
  refine (exceeds_at (shapeCast S5000 (extractStridedSlice S1x5000 ![0, 0] (flags (box b) (Cert.Proof.valid v))
    slices_S1x5120_S1x5000_0_0) shapeCasts_S1x5000_S5000) r).trans ?_
  rw [front_at]
  exact half_lt_ind _

/-- Two bits that are one together are equal. -/
theorem bit_ext (x y : BitVec 1) (h : x = 1#1 ↔ y = 1#1) : x = y := by
  revert h; revert x y; decide

/-- Two arrays of bits that are one at the same places are equal. -/
theorem bits_ext (p q : Bits5000) (h : ∀ r : Fin 5000, p (ix1 r) = 1#1 ↔ q (ix1 r) = 1#1) : p = q := by
  funext i
  have hi : i = ix1 (i 0) := by funext a; fin_cases a; rfl
  rw [hi]
  exact bit_ext _ _ (h (i 0))

/-- Bits that are the greedy rule's are the kernel's. -/
theorem bits_eq (b : Boxes) (v keep : Bits5000)
    (h : ∀ r : Fin 5000, keep (ix1 r) = 1#1 ↔ kept (Cert.Proof.valid v) (ovl (box b)) r.val) :
    keep = keepBits (flags (box b) (Cert.Proof.valid v)) :=
  bits_ext _ _ fun r => (h r).trans (keepBits_kept b v r).symm

/-- From memories that agree on the arguments the reference's result is the kernel's. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0)
      = m ((c.tc : Thread nD τ).loc main_arg0))
    (h1 : m' ((c.tc : Thread Cert.ReferenceIdeal.nD Cert.ReferenceIdeal.τ).loc Cert.ReferenceIdeal.main_arg1)
      = m ((c.tc : Thread nD τ).loc main_arg1)) :
    tail (refBoxes m' c) (refScores m' c) (refBits m' c)
      = tail (boxes m c) (scores m c) (keepBits (flags (box (boxes m c)) (Cert.Proof.valid (validBits (scores m c))))) := by
  have hb : refBoxes m' c = boxes m c := congrArg₂ sortedBoxes h0 h1
  have hs : refScores m' c = scores m c := congrArg sortedScores h1
  rw [bits_eq _ _ _ (refBits_kept m' c), hb, hs]

end Cert.Proof

end
-- ==== Proof.lean ====
/-
  The claim, from the kernel's run, the reference's run and the equality of their results.
-/
module

public import proofs.«01_k».proof.Defs
public import proofs.«01_k».proof.Proof.Equal

@[expose] public section

noncomputable section

namespace Cert.Proof

open Idealize.ShloMosaic Idealize.SL.Sem

/-- The kernel's program terminates with its arguments unchanged and every semaphore at zero. -/
theorem kernel_quiescent : Cert.quiescent_KernelIdeal := fun m g _ =>
  θ_run_mono (kernel_runs m g) fun _ hr => ⟨fun c => (hr.1 c).2, hr.2⟩

/-- So does the reference's. -/
theorem reference_quiescent : Cert.quiescent_ReferenceIdeal := fun m g _ =>
  θ_run_mono (reference_runs m g) fun _ hr => ⟨fun c => (hr.1 c).2, hr.2⟩

/-- From memories that agree on the arguments, both end with the same result. -/
theorem equal_results : Cert.algebraic_KernelIdeal_ReferenceIdeal := fun m g m' g' _ h =>
  ⟨_, θ_run_mono (kernel_runs m g) fun _ hr => hr.1,
    θ_run_mono (reference_runs m' g') fun _ hr c =>
      ⟨(hr.1 c).1.trans (results_eq m m' c (h c).1 (h c).2), (hr.1 c).2⟩⟩

theorem claim : Cert.Claim :=
  ⟨Cert.KernelIdeal.Gen.facts, Cert.ReferenceIdeal.Gen.facts, kernel_quiescent, reference_quiescent, equal_results⟩

end Cert.Proof

end
